-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![8192, 2048]⟩ (Layout.meshBlock [2, 4, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 2048]⟩ ⟨2, ![8192, 2048]⟩ (Layout.meshBlock [2, 4, 4] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S2048x2048 .f32) (main_arg2 : FVec F S2048 .f32) : IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  main_v2
-- ==== Pre_x_finite_ReferenceIdeal.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x2048 .f32) (main_arg2 : FVec F S2048 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  main_v2
-- ==== Kernel.lean ====
abbrev S2048x2048 : Shape := ⟨2, ![2048, 2048]⟩
abbrev S2048 : Shape := ⟨1, ![2048]⟩
abbrev S2x2048 : Shape := ⟨2, ![2, 2048]⟩
abbrev S512x2048 : Shape := ⟨2, ![512, 2048]⟩
abbrev S2x4x2x2048 : Shape := ⟨4, ![2, 4, 2, 2048]⟩
abbrev S2x3 : Shape := ⟨2, ![2, 3]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1x1x2x2048 : Shape := ⟨4, ![1, 1, 2, 2048]⟩
abbrev S1x1 : Shape := ⟨2, ![1, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2x2048, .f32⟩
  | .local _ .vmem, ⟨5, _⟩ => ⟨S2x4x2x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev barrier0 : Sem sig := 0

abbrev nD : Nat := 32
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_21 : BitVec 32 := 0#32
  let v42 : BitVec 1 := Scalar.cmpi .eq arg0 c0_i32_21
  let v43 : BitVec 32 := Scalar.extui v42
  let c0_i32_22 : BitVec 32 := 0#32
  let v44 : BitVec 1 := Scalar.cmpi .ne v43 c0_i32_22
  v44

def k0_dev1 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v86 : BitVec 32 := Scalar.muli v2 c16_i32_41
  let v87 : BitVec 32 := Scalar.addi c0_i32_42 v86
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_43 : BitVec 32 := 4#32
  let v88 : BitVec 32 := Scalar.muli v19 c4_i32_43
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v90 : BitVec 32 := Scalar.muli v8 c1_i32_44
  let v91 : BitVec 32 := Scalar.addi v89 v90
  v91.toNat
def k0_dev2 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v92 : BitVec 32 := Scalar.muli v2 c16_i32_46
  let v93 : BitVec 32 := Scalar.addi c0_i32_47 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v20 : BitVec 32 := Scalar.addi v5 c2_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_48 : BitVec 32 := 4#32
  let v94 : BitVec 32 := Scalar.muli v30 c4_i32_48
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v96 : BitVec 32 := Scalar.muli v8 c1_i32_49
  let v97 : BitVec 32 := Scalar.addi v95 v96
  v97.toNat
def k0_dev3 (d0 : Dev nD) : Nat :=
  let c0_i32_52 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_51 : BitVec 32 := 16#32
  let v98 : BitVec 32 := Scalar.muli v2 c16_i32_51
  let v99 : BitVec 32 := Scalar.addi c0_i32_52 v98
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v31 : BitVec 32 := Scalar.addi v5 c3_i32
  let c4_i32_15 : BitVec 32 := 4#32
  let c0_i32_16 : BitVec 32 := 0#32
  let v32 : BitVec 1 := Scalar.cmpi .eq c4_i32_15 c0_i32_16
  let c1_i32_17 : BitVec 32 := 1#32
  let v33 : BitVec 32 := Scalar.select v32 c1_i32_17 c4_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let c4_i32_53 : BitVec 32 := 4#32
  let v100 : BitVec 32 := Scalar.muli v41 c4_i32_53
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v102 : BitVec 32 := Scalar.muli v8 c1_i32_54
  let v103 : BitVec 32 := Scalar.addi v101 v102
  v103.toNat
def k0_cond3 (i : grid0.Coords) : BitVec 1 :=
  let arg0 : BitVec 32 := BitVec.ofNat 32 (i 0).val
  let c1_i32_34 : BitVec 32 := 1#32
  let v76 : BitVec 1 := Scalar.cmpi .eq arg0 c1_i32_34
  let v77 : BitVec 32 := Scalar.extui v76
  let c0_i32_35 : BitVec 32 := 0#32
  let v78 : BitVec 1 := Scalar.cmpi .ne v77 c0_i32_35
  v78

def k0_dev4 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v92 : BitVec 32 := Scalar.muli v2 c16_i32_57
  let v93 : BitVec 32 := Scalar.addi c0_i32_58 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_59 : BitVec 32 := 4#32
  let v94 : BitVec 32 := Scalar.muli v19 c4_i32_59
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v96 : BitVec 32 := Scalar.muli v8 c1_i32_60
  let v97 : BitVec 32 := Scalar.addi v95 v96
  v97.toNat
def k0_dev5 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v106 : BitVec 32 := Scalar.muli v2 c16_i32_73
  let v107 : BitVec 32 := Scalar.addi c0_i32_74 v106
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v20 : BitVec 32 := Scalar.addi v5 c2_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_75 : BitVec 32 := 4#32
  let v108 : BitVec 32 := Scalar.muli v30 c4_i32_75
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v110 : BitVec 32 := Scalar.muli v8 c1_i32_76
  let v111 : BitVec 32 := Scalar.addi v109 v110
  v111.toNat
def k0_dev6 (d0 : Dev nD) : Nat :=
  let c0_i32_90 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_89 : BitVec 32 := 16#32
  let v120 : BitVec 32 := Scalar.muli v2 c16_i32_89
  let v121 : BitVec 32 := Scalar.addi c0_i32_90 v120
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v31 : BitVec 32 := Scalar.addi v5 c3_i32
  let c4_i32_15 : BitVec 32 := 4#32
  let c0_i32_16 : BitVec 32 := 0#32
  let v32 : BitVec 1 := Scalar.cmpi .eq c4_i32_15 c0_i32_16
  let c1_i32_17 : BitVec 32 := 1#32
  let v33 : BitVec 32 := Scalar.select v32 c1_i32_17 c4_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let c4_i32_91 : BitVec 32 := 4#32
  let v122 : BitVec 32 := Scalar.muli v41 c4_i32_91
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v124 : BitVec 32 := Scalar.muli v8 c1_i32_92
  let v125 : BitVec 32 := Scalar.addi v123 v124
  v125.toNat
def k0_cond5 (i : grid0.Coords) : BitVec 1 :=
  let arg0 : BitVec 32 := BitVec.ofNat 32 (i 0).val
  let c3_i32_38 : BitVec 32 := 3#32
  let v82 : BitVec 1 := Scalar.cmpi .eq arg0 c3_i32_38
  let v83 : BitVec 32 := Scalar.extui v82
  let c0_i32_39 : BitVec 32 := 0#32
  let v84 : BitVec 1 := Scalar.cmpi .ne v83 c0_i32_39
  v84

def k0_dev7 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_55 : BitVec 32 := 16#32
  let v91 : BitVec 32 := Scalar.muli v2 c16_i32_55
  let v92 : BitVec 32 := Scalar.addi c0_i32_56 v91
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_57 : BitVec 32 := 4#32
  let v93 : BitVec 32 := Scalar.muli v19 c4_i32_57
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v95 : BitVec 32 := Scalar.muli v8 c1_i32_58
  let v96 : BitVec 32 := Scalar.addi v94 v95
  v96.toNat
def k0_dev8 (d0 : Dev nD) : Nat :=
  let c0_i32_72 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_71 : BitVec 32 := 16#32
  let v105 : BitVec 32 := Scalar.muli v2 c16_i32_71
  let v106 : BitVec 32 := Scalar.addi c0_i32_72 v105
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v20 : BitVec 32 := Scalar.addi v5 c2_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_73 : BitVec 32 := 4#32
  let v107 : BitVec 32 := Scalar.muli v30 c4_i32_73
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v109 : BitVec 32 := Scalar.muli v8 c1_i32_74
  let v110 : BitVec 32 := Scalar.addi v108 v109
  v110.toNat
def k0_dev9 (d0 : Dev nD) : Nat :=
  let c0_i32_88 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_87 : BitVec 32 := 16#32
  let v119 : BitVec 32 := Scalar.muli v2 c16_i32_87
  let v120 : BitVec 32 := Scalar.addi c0_i32_88 v119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v31 : BitVec 32 := Scalar.addi v5 c3_i32
  let c4_i32_15 : BitVec 32 := 4#32
  let c0_i32_16 : BitVec 32 := 0#32
  let v32 : BitVec 1 := Scalar.cmpi .eq c4_i32_15 c0_i32_16
  let c1_i32_17 : BitVec 32 := 1#32
  let v33 : BitVec 32 := Scalar.select v32 c1_i32_17 c4_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let c4_i32_89 : BitVec 32 := 4#32
  let v121 : BitVec 32 := Scalar.muli v41 c4_i32_89
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v123 : BitVec 32 := Scalar.muli v8 c1_i32_90
  let v124 : BitVec 32 := Scalar.addi v122 v123
  v124.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Slots.lean ====
/-
# The mailboxes of the y-ring kernel

The scratch operand is an array of 2 halves by 4 mailboxes, each a 2 by 2048 vector (one row for dgamma, one
for dbeta). Half `h` of a device's own sum is kept in mailbox `(h, 0)`; mailbox `(h, k + 1)` receives the same half
from the device `k + 1` places back along the y axis. This module states what a mailbox holds, cuts the scratch
buffer into its eight mailboxes and joins them back, and states what a copy from mailbox to mailbox writes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Ring.Trips

@[expose] public section

set_option maxRecDepth 16384

noncomputable section

namespace Cert.YRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ring's ghost state: duties named by the three neighbours. -/
abbrev UB : Type := URounds (GSem nD τ sig) (Fin 3)
/-- The pipeline's ghost state beside the ring's. -/
abbrev UU : Type := UR sig nD τ × UB

local notation "𝕄" => MT nD τ sig Unit (Elt F) ℕ UU ℕ

/-- The pipeline's ghost state within the whole. -/
abbrev EP : Emb (UR sig nD τ) (MT nD τ sig Unit (Elt F) ℕ UU ℕ) := embL
/-- The ring's ghost state within the whole. -/
abbrev ER : Emb UB (MT nD τ sig Unit (Elt F) ℕ UU ℕ) := embR

variable (m : (ℓ : Loc nD τ sig) → Buf (Elt F) ℓ)

/-! ## The neighbours along y -/

set_option backward.proofsInPublic true in
/-- The device `k + 1` places further along the y axis (size 4), the x and z coordinates kept. -/
def up (k : Fin 3) (c : Dev nD) : Dev nD :=
  ⟨c.val / 16 * 16 + (c.val / 4 % 4 + (k.val + 1)) % 4 * 4 + c.val % 4, by
    have h := c.isLt; have hn : nD = 32 := rfl; omega⟩

/-- The neighbour number of the way back: three places and one place, two places and two places. -/
abbrev bk (k : Fin 3) : Fin 3 := Fin.rev k

/-- Back and forth along the ring is no step. -/
theorem up_up_bk (k : Fin 3) (c : Dev nD) : up k (up (bk k) c) = c := by revert k c; decide
/-- Forth and back along the ring is no step. -/
theorem up_bk_up (k : Fin 3) (c : Dev nD) : up (bk k) (up k c) = c := by revert k c; decide

set_option backward.proofsInPublic true in
/-- The step along y as a permutation of the devices. -/
def upE (k : Fin 3) : Dev nD ≃ Dev nD := ⟨up k, up (bk k), up_bk_up k, up_up_bk k⟩

/-- The device that copy or signal 1 of the body addresses. -/
theorem dev1_eq (c : Dev nD) (h : k0_dev1 c < nD) : (⟨k0_dev1 c, h⟩ : Dev nD) = up 0 c := Fin.ext (by revert c; decide)
/-- The device that copy or signal 2 of the body addresses. -/
theorem dev2_eq (c : Dev nD) (h : k0_dev2 c < nD) : (⟨k0_dev2 c, h⟩ : Dev nD) = up 1 c := Fin.ext (by revert c; decide)
/-- The device that copy or signal 3 of the body addresses. -/
theorem dev3_eq (c : Dev nD) (h : k0_dev3 c < nD) : (⟨k0_dev3 c, h⟩ : Dev nD) = up 2 c := Fin.ext (by revert c; decide)
/-- The device that copy or signal 4 of the body addresses. -/
theorem dev4_eq (c : Dev nD) (h : k0_dev4 c < nD) : (⟨k0_dev4 c, h⟩ : Dev nD) = up 0 c := Fin.ext (by revert c; decide)
/-- The device that copy or signal 5 of the body addresses. -/
theorem dev5_eq (c : Dev nD) (h : k0_dev5 c < nD) : (⟨k0_dev5 c, h⟩ : Dev nD) = up 1 c := Fin.ext (by revert c; decide)
/-- The device that copy or signal 6 of the body addresses. -/
theorem dev6_eq (c : Dev nD) (h : k0_dev6 c < nD) : (⟨k0_dev6 c, h⟩ : Dev nD) = up 2 c := Fin.ext (by revert c; decide)
/-- The device that copy or signal 7 of the body addresses. -/
theorem dev7_eq (c : Dev nD) (h : k0_dev7 c < nD) : (⟨k0_dev7 c, h⟩ : Dev nD) = up 0 c := Fin.ext (by revert c; decide)
/-- The device that copy or signal 8 of the body addresses. -/
theorem dev8_eq (c : Dev nD) (h : k0_dev8 c < nD) : (⟨k0_dev8 c, h⟩ : Dev nD) = up 1 c := Fin.ext (by revert c; decide)
/-- The device that copy or signal 9 of the body addresses. -/
theorem dev9_eq (c : Dev nD) (h : k0_dev9 c < nD) : (⟨k0_dev9 c, h⟩ : Dev nD) = up 2 c := Fin.ext (by revert c; decide)

/-! ## Mailboxes -/

/-- The scratch array of mailboxes. -/
abbrev scrM : Memref sig .tc .vmem S2x4x2x2048 .f32 := Memref.whole cc0_scratch0

/-- A mailbox lies within the scratch array. -/
theorem slot_inb (h : Fin 2) (s : Fin 4) :
    ∀ a, (![h.val, s.val, 0, 0] : Fin 4 → Nat) a + S1x1x2x2048.size a ≤ S2x4x2x2048.size a := by
  revert h s; decide

/-- Mailbox `(h, s)`'s rectangle of the scratch array. -/
abbrev slotRect (h : Fin 2) (s : Fin 4) : Rect S2x4x2x2048 :=
  Rect.unit (s := S2x4x2x2048) ![h.val, s.val, 0, 0] S1x1x2x2048.size (slot_inb h s)

/-- Mailbox `(h, s)` as loads and stores address it, -/
abbrev slotA (h : Fin 2) (s : Fin 4) : View sig .tc .vmem S1x1x2x2048 .f32 := scrM.access (slotRect h s)

/-- and as the copies name it: its 2 by 2048 vector. -/
abbrev slotM (h : Fin 2) (s : Fin 4) : Memref sig .tc .vmem S2x2048 .f32 :=
  (scrM.slice (slotRect h s) (fun _ => rfl)).squeeze S2x2048 squeezes_S1x1x2x2048_S2x2048

/-- A mailbox's elements of the scratch buffer. -/
abbrev slotSet (h : Fin 2) (s : Fin 4) : Finset ((cc0_scratch0 : Ref sig .tc).ty.Idx) := (slotA h s).set

/-- A mailbox's view covers its rectangle. -/
theorem slotM_set (h : Fin 2) (s : Fin 4) : (slotM h s).view.set = slotSet h s := View.set_reshape _ _

/-- A device's scratch array. -/
abbrev scrLoc (c : Dev nD) : Loc nD τ sig := (c : Thread nD τ).loc cc0_scratch0

/-- Mailbox `(h, s)` of device `c` held at share `q`, holding `Y`. -/
def slotPts (c : Dev nD) (h : Fin 2) (s : Fin 4) (q : PosShare TreeShare) (Y : Vec F S1x1x2x2048 .f32) : sProp 𝕄 :=
  scrLoc c ↦[slotSet h s]{q} (slotA h s).write (Elt F) (m (scrLoc c)) Y Finset.univ

/-- Mailbox `(h, s)` of device `c` held at some contents. -/
def slotAny (c : Dev nD) (h : Fin 2) (s : Fin 4) : sProp 𝕄 := iprop(∃ f, scrLoc c ↦[slotSet h s]{fullShare} f)

omit [FloatOps F] in
instance slotPts_storable (c : Dev nD) (h : Fin 2) (s : Fin 4) (q) (Y) : BI.Storable (upEmb : UEmb _ 𝕄) (slotPts (F := F) m c h s q Y) := by
  unfold slotPts; infer_instance
omit [FloatOps F] in
instance slotAny_storable (c : Dev nD) (h : Fin 2) (s : Fin 4) : BI.Storable (upEmb : UEmb _ 𝕄) (slotAny (F := F) c h s) := by
  unfold slotAny; infer_instance

omit [FloatOps F] in
/-- A mailbox written with `Y` over any contents holds `Y`. -/
theorem slotPts_of_write (c : Dev nD) (h : Fin 2) (s : Fin 4) (q : PosShare TreeShare) (fd : Buf (Elt F) (scrLoc c)) (Y : Vec F S1x1x2x2048 .f32) :
    (scrLoc c ↦[slotSet h s]{q} (slotA h s).write (Elt F) fd Y Finset.univ : sProp 𝕄) = slotPts m c h s q Y :=
  View.pointsTo_write_univ_congr (c : Thread nD τ) (slotA h s) q fd (m (scrLoc c)) Y

omit [FloatOps F] in
/-- A mailbox with known contents is a mailbox with some contents. -/
theorem slotAny_of_pts (c : Dev nD) (h : Fin 2) (s : Fin 4) (Y : Vec F S1x1x2x2048 .f32) :
    slotPts m c h s fullShare Y ⊢ (slotAny c h s : sProp 𝕄) := by
  unfold slotPts slotAny; iintro H; iexists _; iexact H

omit [FloatOps F] in
/-- A copy from a mailbox holding `Y` leaves the destination mailbox holding `Y`, whatever it held. -/
theorem slot_copied (c c' : Dev nD) (h : Fin 2) (s : Fin 4) (fd : Buf (Elt F) (scrLoc c')) (g : Buf (Elt F) (scrLoc c)) (Y : Vec F S1x1x2x2048 .f32) :
    (scrLoc c' ↦[(slotM h s).view.set]{fullShare} (slotM h s).view.write (Elt F) fd
        ((slotM h 0).view.read (Elt F) ((slotA h 0).write (Elt F) g Y Finset.univ)) Finset.univ : sProp 𝕄)
      = slotPts m c' h s fullShare Y := by
  rw [slotM_set, ← slotPts_of_write m c' h s fullShare fd Y]
  congr 1
  refine (View.write_reshape_univ (v := slotA h s) _ fd _).trans ?_
  congr 1
  funext x
  refine Eq.trans (b := (slotA h 0).read (Elt F) ((slotA h 0).write (Elt F) g Y Finset.univ) x) ?_ (by rw [View.read_write_univ])
  show (slotA h 0).read (Elt F) _ (Shape.reshapeEquiv _ ((Shape.reshapeEquiv _).symm x)) = _
  rw [Equiv.apply_symm_apply]

/-! ## The scratch buffer cut into its mailboxes -/

/-- Two mailboxes do not overlap. -/
theorem slot_disjoint (b b' : Fin 2 × Fin 4) (hb : b ≠ b') : Disjoint (slotSet b.1 b.2) (slotSet b'.1 b'.2) := by
  unfold slotSet slotA
  show Disjoint ((View.whole cc0_scratch0).slice (slotRect b.1 b.2)).set ((View.whole cc0_scratch0).slice (slotRect b'.1 b'.2)).set
  rw [View.set_slice_whole, View.set_slice_whole, Finset.disjoint_left]
  intro i hi hi'
  rw [Rect.mem_set_unit] at hi hi'
  have h0 := hi 0; have h0' := hi' 0; have h1 := hi 1; have h1' := hi' 1
  simp only [Matrix.cons_val_zero, Matrix.cons_val_one] at h0 h0' h1 h1'
  exact hb (Prod.ext (Fin.ext (by omega)) (Fin.ext (by omega)))

/-- The mailboxes cover the scratch array. -/
theorem slot_cover : Finset.univ.biUnion (fun b : Fin 2 × Fin 4 => slotSet b.1 b.2) = Finset.univ := by
  refine Finset.eq_univ_iff_forall.mpr fun i => Finset.mem_biUnion.mpr ⟨((⟨(i 0).val, (i 0).isLt⟩ : Fin 2), (⟨(i 1).val, (i 1).isLt⟩ : Fin 4)), Finset.mem_univ _, ?_⟩
  refine (Finset.ext_iff.mp (View.set_slice_whole cc0_scratch0 (slotRect _ _)) i).mpr (Rect.mem_set_unit.mpr ?_)
  intro a
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, (Nat.zero_add _).symm ▸ (i 2).isLt⟩
  | ⟨3, _⟩ => exact ⟨Nat.zero_le _, (Nat.zero_add _).symm ▸ (i 3).isLt⟩

omit [FloatOps F] in
/-- A family over the eight mailboxes, listed. -/
theorem slots_list (P : Fin 2 × Fin 4 → sProp 𝕄) : bigSep Finset.univ P
    = iprop(P (0,0) ∗ P (1,0) ∗ P (0,1) ∗ P (1,1) ∗ P (0,2) ∗ P (1,2) ∗ P (0,3) ∗ P (1,3)) := by
  rw [bigSep_univ_eq_bigSepL [(0,0),(1,0),(0,1),(1,1),(0,2),(1,2),(0,3),(1,3)] (by decide) (by decide)]
  simp only [bigSepL_cons_cons, bigSepL_singleton]
  rfl

omit [FloatOps F] in
/-- The scratch buffer held whole is its eight mailboxes held. -/
theorem scr_split (c : Dev nD) (f : Buf (Elt F) (scrLoc c)) :
    (scrLoc c ↦{fullShare} f : sProp 𝕄) ⊢ iprop((slotAny c 0 0 ∗ slotAny c 1 0)
      ∗ (slotAny c 0 1 ∗ slotAny c 1 1) ∗ (slotAny c 0 2 ∗ slotAny c 1 2) ∗ (slotAny c 0 3 ∗ slotAny c 1 3)) := by
  rw [Ring.pointsTo_blocks (ℓ := scrLoc c) (fun b : Fin 2 × Fin 4 => slotSet b.1 b.2) slot_disjoint slot_cover f, slots_list]
  unfold slotAny
  iintro ⟨H0, H1, H2, H3, H4, H5, H6, H7⟩
  isplitl [H0 H1]
  · isplitl [H0] <;> (iexists _; iassumption)
  isplitl [H2 H3]
  · isplitl [H2] <;> (iexists _; iassumption)
  isplitl [H4 H5]
  · isplitl [H4] <;> (iexists _; iassumption)
  · isplitl [H6] <;> (iexists _; iassumption)

omit [FloatOps F] in
/-- and back. -/
theorem scr_join (c : Dev nD) (f₀ : Buf (Elt F) (scrLoc c)) :
    iprop((slotAny c 0 0 ∗ slotAny c 1 0)
      ∗ (slotAny c 0 1 ∗ slotAny c 1 1) ∗ (slotAny c 0 2 ∗ slotAny c 1 2) ∗ (slotAny c 0 3 ∗ slotAny c 1 3))
      ⊢ (iprop(∃ f, scrLoc c ↦{fullShare} f) : sProp 𝕄) := by
  refine BIBase.Entails.trans ?_ (Ring.pointsTo_blocks_join_exists (ℓ := scrLoc c) (fun b : Fin 2 × Fin 4 => slotSet b.1 b.2) slot_disjoint slot_cover f₀)
  rw [slots_list]
  unfold slotAny
  iintro ⟨⟨H0, H1⟩, ⟨H2, H3⟩, ⟨H4, H5⟩, H6, H7⟩
  isplitl [H0]; · iassumption
  isplitl [H1]; · iassumption
  isplitl [H2]; · iassumption
  isplitl [H3]; · iassumption
  isplitl [H4]; · iassumption
  isplitl [H5]; · iassumption
  isplitl [H6] <;> iassumption

omit [FloatOps F] in
/-- A mailbox held outright is held in three shares, one per copy that reads it. -/
theorem slot_thirds (c : Dev nD) (h : Fin 2) (s : Fin 4) (Y : Vec F S1x1x2x2048 .f32) :
    (slotPts m c h s fullShare Y : sProp 𝕄) ⊣⊢ iprop(slotPts m c h s (Ring.shares3 fullShare 0) Y
      ∗ slotPts m c h s (Ring.shares3 fullShare 1) Y ∗ slotPts m c h s (Ring.shares3 fullShare 2) Y) := by
  unfold slotPts; exact Ring.pointsTo_thirds fullShare _

end Cert.YRing

end
-- ==== Proof.Schedule.lean ====
/-
# The y-ring's schedule

Which semaphore counts what. Every device has a barrier cell, six send cells and six receive cells (half `h`,
neighbour `k`), each used for one round.

* The barrier cell of `c` is signalled once by each of the three other devices of its y ring. The signal of the
  device `j + 1` places on hands `c` that device's mailboxes `(0, j + 1)` and `(1, j + 1)`, which `c` will copy into.
* The send cell `(h, k)` counts the copy of half `h` to the device `k + 1` places on; when it is counted the
  third of mailbox `(h, 0)` lent to the copy comes back.
* The receive cell `(h, k)` counts the landing of half `h` of the device `k + 1` places back; the landing hands over
  mailbox `(h, k + 1)` holding that half.

At launch a device owes its six landings and its three signals. A barrier cell's level is 1, a receive cell's 2, all
others' 0.
-/
module

public import proofs.«01_k».proof.Proof.Slots

@[expose] public section

set_option maxRecDepth 16384

noncomputable section

namespace Cert.YRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The contents -/

/-- Device `c`'s column sums over the 512 rows of grid point `t`: dgamma's and dbeta's. -/
def part (c : Dev nD) (t : Fin cfg0.N) : FVec F S2x2048 .f32 := k0_pay7 (iblk m c 0 t) (iblk m c 1 t)

/-- Half `h` of device `c`'s column sums: points 0 and 1, or points 2 and 3. -/
def half (h : Fin 2) (c : Dev nD) : Vec F S1x1x2x2048 .f32 :=
  match h with
  | ⟨0, _⟩ => k0_pay4 (part m c t0_1) (k0_pay1 (part m c t0_0))
  | ⟨_ + 1, _⟩ => k0_pay5 (part m c t0_3) (k0_pay2 (part m c t0_2))

/-! ## The cells -/

/-- What a semaphore is for. -/
inductive Role where
  | none | bar | send (h : Fin 2) (k : Fin 3) | recv (h : Fin 2) (k : Fin 3)

/-- The barrier semaphore. -/
abbrev barS : Sem sig := (SemArray.scalar (sig.barrier 0 rfl) : Sems sig S_).sem

set_option backward.proofsInPublic true in
/-- The send semaphore of lane `(h, k)`. -/
abbrev sendS (h : Fin 2) (k : Fin 3) : DmaSem sig := (⟨5 + (3 * h.val + k.val), by have := h.isLt; have := k.isLt; omega⟩ : Fin 17)
set_option backward.proofsInPublic true in
/-- The receive semaphore of lane `(h, k)`. -/
abbrev recvS (h : Fin 2) (k : Fin 3) : DmaSem sig := (⟨11 + (3 * h.val + k.val), by have := h.isLt; have := k.isLt; omega⟩ : Fin 17)

/-- What a semaphore is for. -/
def role : SemLoc sig → Role
  | .reg s => if s = barS then .bar else .none
  | .dma q => if q.val < 5 then .none
      else if q.val < 11 then .send (Fin.ofNat 2 ((q.val - 5) / 3)) (Fin.ofNat 3 ((q.val - 5) % 3))
      else .recv (Fin.ofNat 2 ((q.val - 11) / 3)) (Fin.ofNat 3 ((q.val - 11) % 3))

/-- The barrier semaphore's role. -/
theorem role_bar : role (.reg barS) = .bar := by unfold role; exact if_pos rfl
/-- A send semaphore's role. -/
theorem role_send (h : Fin 2) (k : Fin 3) : role (.dma (sendS h k)) = .send h k := by
  fin_cases h <;> fin_cases k <;> rfl
/-- A receive semaphore's role. -/
theorem role_recv (h : Fin 2) (k : Fin 3) : role (.dma (recvS h k)) = .recv h k := by
  fin_cases h <;> fin_cases k <;> rfl

/-- A device's barrier cell. -/
abbrev barCell (c : Dev nD) : GSem nD τ sig := ((c : Thread nD τ), .reg barS)
/-- A device's send cell of lane `(h, k)`. -/
abbrev sendCell (c : Dev nD) (h : Fin 2) (k : Fin 3) : GSem nD τ sig := ((c : Thread nD τ), .dma (sendS h k))
/-- A device's receive cell of lane `(h, k)`. -/
abbrev recvCell (c : Dev nD) (h : Fin 2) (k : Fin 3) : GSem nD τ sig := ((c : Thread nD τ), .dma (recvS h k))

/-- The credit of one mailbox's copy. -/
abbrev N : ℕ := (slotM 0 0).view.dmaCredit
/-- A landing pays at least one unit. -/
theorem N_pos : 0 < N := View.dmaCredit_pos _ (by decide)

/-! ## The schedule -/

/-- What the signal of the device `j + 1` places on hands `c`: that device's mailboxes for `c`'s copies. -/
def barPay (c : Dev nD) (j : Fin 3) : sProp 𝕄 := iprop(slotAny (up j c) 0 j.succ ∗ slotAny (up j c) 1 j.succ)
/-- What a landing hands over: the mailbox holding the sender's half. -/
def recvPay (c : Dev nD) (h : Fin 2) (k : Fin 3) : sProp 𝕄 := slotPts m c h k.succ fullShare (half m h (up (bk k) c))
/-- What a counted copy gives back: the third of the device's own half it read. -/
def sendPay (c : Dev nD) (h : Fin 2) (k : Fin 3) : sProp 𝕄 := slotPts m c h 0 (Ring.shares3 fullShare k) (half m h c)

/-- One cell's payload, by its role. -/
def payOf (c : Dev nD) (d : Fin 3) : Role → sProp 𝕄
  | .none => iprop(emp)
  | .bar => barPay c d
  | .send h k => sendPay m c h k
  | .recv h k => recvPay m c h k

instance payOf_storable (c : Dev nD) (d : Fin 3) (r : Role) : BI.Storable (upEmb : UEmb _ 𝕄) (payOf m c d r) := by
  cases r <;> (unfold payOf; first | infer_instance | (unfold barPay; infer_instance) | (unfold sendPay; infer_instance) | (unfold recvPay; infer_instance))

/-- One cell's duties, by its role. -/
def dutiesOf : Role → Finset (Fin 3)
  | .none => ∅
  | .bar => Finset.univ
  | _ => {0}

/-- The amount of a duty, by the cell's role. -/
def amountOf : Role → ℕ
  | .bar => 1
  | _ => N

/-- The schedule: every cell has one round, with its role's duties, amounts and payloads. -/
def Rd : Rounds.Schedule (GSem nD τ sig) (Fin 3) 𝕄 where
  duties g r := if r = 0 ∧ g.1.2 = .tc then dutiesOf (role g.2) else ∅
  unitless _ := False
  amount g _ _ := amountOf (role g.2)
  payload g _ d := payOf m g.1.1 d (role g.2)
  amount_pos g _ _ _ := by
    cases role g.2 <;> first | exact N_pos | exact Nat.one_pos

instance Rd_payload_storable (g : GSem nD τ sig) (r : ℕ) (d : Fin 3) :
    BI.Storable (upEmb : UEmb _ 𝕄) ((Rd (F := F) m).payload g r d) := payOf_storable m g.1.1 d (role g.2)

section Sched
variable (c : Dev nD) (h : Fin 2) (k : Fin 3)

/-- The duties of a cell's one round are its role's. -/
theorem duties_tc (sm : SemLoc sig) : (Rd (F := F) m).duties ((c : Thread nD τ), sm) 0 = dutiesOf (role sm) := by
  dsimp only [Rd]; exact if_pos ⟨rfl, rfl⟩
/-- No cell has a later round. -/
theorem duties_later (g : GSem nD τ sig) : ∀ r, 1 ≤ r → (Rd (F := F) m).duties g r = ∅ :=
  fun r hr => by dsimp only [Rd]; exact if_neg fun h => by omega
/-- The barrier has three duties, one per neighbour. -/
theorem duties_bar : (Rd (F := F) m).duties (barCell c) 0 = Finset.univ := by rw [duties_tc, role_bar]; rfl
/-- A send cell has one duty. -/
theorem duties_send : (Rd (F := F) m).duties (sendCell c h k) 0 = {0} := by rw [duties_tc, role_send]; rfl
/-- A receive cell has one duty. -/
theorem duties_recv : (Rd (F := F) m).duties (recvCell c h k) 0 = {0} := by rw [duties_tc, role_recv]; rfl

/-- A signal onto the barrier is one unit. -/
theorem amount_bar (d : Fin 3) : (Rd (F := F) m).amount (barCell c) 0 d = 1 := by dsimp only [Rd]; rw [role_bar]; rfl
/-- A send cell is paid one copy's units. -/
theorem amount_send (d : Fin 3) : (Rd (F := F) m).amount (sendCell c h k) 0 d = N := by dsimp only [Rd]; rw [role_send]; rfl
/-- A receive cell is paid one copy's units. -/
theorem amount_recv (d : Fin 3) : (Rd (F := F) m).amount (recvCell c h k) 0 d = N := by dsimp only [Rd]; rw [role_recv]; rfl

/-- What a signal onto the barrier hands over. -/
theorem payload_bar (d : Fin 3) : (Rd (F := F) m).payload (barCell c) 0 d = barPay c d := by dsimp only [Rd]; rw [role_bar]; rfl
/-- What a finished send hands back. -/
theorem payload_send (d : Fin 3) : (Rd (F := F) m).payload (sendCell c h k) 0 d = sendPay m c h k := by dsimp only [Rd]; rw [role_send]; rfl
/-- What a landing hands over. -/
theorem payload_recv (d : Fin 3) : (Rd (F := F) m).payload (recvCell c h k) 0 d = recvPay m c h k := by dsimp only [Rd]; rw [role_recv]; rfl

/-- The barrier's round is three units. -/
theorem expect_bar : (Rd (F := F) m).expect (barCell c) 0 = 3 := by
  unfold Schedule.expect Schedule.amountOf
  rw [duties_bar, Finset.sum_congr rfl fun d _ => amount_bar m c d]; rfl
/-- A send cell's round is one copy's units. -/
theorem expect_send : (Rd (F := F) m).expect (sendCell c h k) 0 = N := by
  unfold Schedule.expect Schedule.amountOf; rw [duties_send, Finset.sum_singleton, amount_send]
/-- A receive cell's round is one copy's units. -/
theorem expect_recv : (Rd (F := F) m).expect (recvCell c h k) 0 = N := by
  unfold Schedule.expect Schedule.amountOf; rw [duties_recv, Finset.sum_singleton, amount_recv]

/-- A round of the barrier cell, no duty taken: the mailboxes of the three other devices of the ring. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
/-- All that a send cell's round hands over. -/
theorem rest_send : bigSep ((Rd (F := F) m).duties (sendCell c h k) 0 \ ∅) (fun d => (Rd (F := F) m).payload (sendCell c h k) 0 d)
    = sendPay m c h k := by
  rw [Finset.sdiff_empty, duties_send, bigSep_singleton, payload_send]
/-- All that a receive cell's round hands over. -/
theorem rest_recv : bigSep ((Rd (F := F) m).duties (recvCell c h k) 0 \ ∅) (fun d => (Rd (F := F) m).payload (recvCell c h k) 0 d)
    = recvPay m c h k := by
  rw [Finset.sdiff_empty, duties_recv, bigSep_singleton, payload_recv]

end Sched

/-! ## What each device owes, and the levels -/

/-- One landing owed: half `h` at the device `k + 1` places on. -/
def oR (c : Dev nD) (h : Fin 2) (k : Fin 3) : CellTallies nD τ sig Unit := tallyAt (recvCell (up k c) h k) () N
/-- One signal owed: to the device `k + 1` places on. -/
def oB (c : Dev nD) (k : Fin 3) : CellTallies nD τ sig Unit := tallyAt (barCell (up k c)) () 1

/-- Owed until half 1 is copied: its three landings; -/
def owe1 (c : Dev nD) : CellTallies nD τ sig Unit := 0 + oR c 1 2 + oR c 1 1 + oR c 1 0
/-- until half 0 is copied: all six landings; -/
def owe6 (c : Dev nD) : CellTallies nD τ sig Unit := owe1 c + oR c 0 2 + oR c 0 1 + oR c 0 0
/-- at launch: the three signals too. -/
def owe9 (c : Dev nD) : CellTallies nD τ sig Unit := owe6 c + oB c 2 + oB c 1 + oB c 0

/-- The levels in use: one on each TensorCore cell. -/
def L (g : GSem nD τ sig) : Finset Unit := if g.1.2 = .tc then {()} else ∅

/-- A role's level: landings above the barrier, the barrier above the sends. -/
def lvOf : Role → ℕ
  | .bar => 1
  | .recv _ _ => 2
  | _ => 0

/-- A cell's level. -/
def lv (g : GSem nD τ sig) (_ : Unit) : ℕ := lvOf (role g.2)

/-- No level is in use away from a TensorCore. -/
theorem L_of_ne (g : GSem nD τ sig) (h : g.1.2 ≠ .tc) : L g = ∅ := if_neg h
/-- One level is in use on a TensorCore's cell. -/
theorem L_tc (c : Dev nD) (sm : SemLoc sig) : L ((c : Thread nD τ), sm) = {()} := if_pos rfl

/-- Everything in `O` is owed to a TensorCore's cell above level `n`. -/
def Above (n : ℕ) (O : CellTallies nD τ sig Unit) : Prop := ∀ g u, 0 < O g u → g.1.2 = .tc ∧ n < lv g u

/-- Nothing owed lies above every level. -/
theorem above_zero (n : ℕ) : Above n 0 := fun g u h => absurd h (Nat.lt_irrefl 0)
/-- Two debts above a level are together above it. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with e | e
  · exact h' g u (by omega)
  · exact h g u e
/-- One debt is above a level if its cell is. -/
theorem above_tally {n : ℕ} (c : Dev nD) (sm : SemLoc sig) (a : ℕ) (h : n < lvOf (role sm)) : Above n (tallyAt ((c : Thread nD τ), sm) () a) := fun g u hg => by
  rw [tallyAt_apply] at hg
  by_cases e : g = ((c : Thread nD τ), sm) ∧ u = ()
  · rw [e.1]; exact ⟨rfl, h⟩
  · rw [if_neg e] at hg; exact absurd hg (Nat.lt_irrefl 0)
/-- A landing owed is above the barrier's level. -/
theorem above_oR {n : ℕ} (hn : n < 2) (c : Dev nD) (h : Fin 2) (k : Fin 3) : Above n (oR c h k) :=
  above_tally _ _ _ (by rw [role_recv]; exact hn)
/-- A signal owed is above the sends' level. -/
theorem above_oB (c : Dev nD) (k : Fin 3) : Above 0 (oB c k) := above_tally _ _ _ (by rw [role_bar]; exact Nat.one_pos)
/-- What is owed from the second half's copies on is above the barrier's level. -/
theorem above_owe1 {n : ℕ} (hn : n < 2) (c : Dev nD) : Above n (owe1 c) :=
  above_add (above_add (above_add (above_zero n) (above_oR hn c _ _)) (above_oR hn c _ _)) (above_oR hn c _ _)
/-- The landings owed are above the barrier's level. -/
theorem above_owe6 {n : ℕ} (hn : n < 2) (c : Dev nD) : Above n (owe6 c) :=
  above_add (above_add (above_add (above_owe1 hn c) (above_oR hn c _ _)) (above_oR hn c _ _)) (above_oR hn c _ _)
/-- All that is owed at launch is above the sends' level. -/
theorem above_owe9 (c : Dev nD) : Above 0 (owe9 c) :=
  above_add (above_add (above_add (above_owe6 (by decide) c) (above_oB c _)) (above_oB c _)) (above_oB c _)

omit [FloatOps F] in
/-- A wait on a cell at level at most `n` is allowed while everything owed is above `n`. -/
theorem mayWait (c : Dev nD) (sm : SemLoc sig) (n : ℕ) (hsm : lvOf (role sm) ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

end Cert.YRing

end
-- ==== Proof.Moves.lean ====
/-
# The moves of the y-ring kernel

What a device holds between its operations, and one rule per kind of operation: the entry signal, the entry wait, a copy
of a half to a neighbour, the wait for a copy to have been read, the wait for a landing.
-/
module

public import proofs.«01_k».proof.Proof.Schedule

@[expose] public section

set_option maxRecDepth 16384

noncomputable section

namespace Cert.YRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop of the body takes a variant. -/
abbrev 𝒱₀ : Variants := Variants.none

/-- The cells by number: the twelve copy semaphores (`3 h + k` for sends, `6 + 3 h + k` for receives), then the barrier. -/
abbrev csem (j : Fin 13) : SemLoc sig := if hj : j.val < 12 then .dma (⟨5 + j.val, by omega⟩ : Fin 17) else .reg barS
/-- Cell number `ck.2` of device `ck.1`. -/
abbrev kcell (ck : Dev nD × Fin 13) : GSem nD τ sig := ((ck.1 : Thread nD τ), csem ck.2)

set_option backward.proofsInPublic true in
/-- The number of the send cell of lane `(h, k)`. -/
abbrev iS (h : Fin 2) (k : Fin 3) : Fin 13 := ⟨3 * h.val + k.val, by have := h.isLt; have := k.isLt; omega⟩
set_option backward.proofsInPublic true in
/-- The number of the receive cell of lane `(h, k)`. -/
abbrev iR (h : Fin 2) (k : Fin 3) : Fin 13 := ⟨6 + (3 * h.val + k.val), by have := h.isLt; have := k.isLt; omega⟩
/-- The number of the barrier cell. -/
abbrev iB : Fin 13 := 12

/-- The semaphore of a send cell's number. -/
theorem csem_S (h : Fin 2) (k : Fin 3) : csem (iS h k) = .dma (sendS h k) := by fin_cases h <;> fin_cases k <;> rfl
/-- The semaphore of a receive cell's number. -/
theorem csem_R (h : Fin 2) (k : Fin 3) : csem (iR h k) = .dma (recvS h k) := by fin_cases h <;> fin_cases k <;> rfl
/-- The semaphore of the barrier cell's number. -/
theorem csem_B : csem iB = .reg barS := rfl
/-- The cell of a send cell's number. -/
theorem kcell_S (c : Dev nD) (h : Fin 2) (k : Fin 3) : kcell (c, iS h k) = sendCell c h k := congrArg (Prod.mk _) (csem_S h k)
/-- The cell of a receive cell's number. -/
theorem kcell_R (c : Dev nD) (h : Fin 2) (k : Fin 3) : kcell (c, iR h k) = recvCell c h k := congrArg (Prod.mk _) (csem_R h k)
/-- The cell of the barrier cell's number. -/
theorem kcell_B (c : Dev nD) : kcell (c, iB) = barCell c := rfl

/-- Every device's cells' invariants under their names, every cell at round 0 or later. -/
def records (K : Dev nD × Fin 13 → ℕ) : sProp 𝕄 :=
  iprop(bigSep Finset.univ (fun ck : Dev nD × Fin 13 => cellInv ER (Rd m) (K ck) (kcell ck))
    ∗ bigSep Finset.univ (fun ck : Dev nD × Fin 13 => reached ER (kcell ck) 0))

instance records_persistent (K : Dev nD × Fin 13 → ℕ) : BI.Persistent (records m K) := by unfold records; infer_instance

/-- The records hold the invariant of every cell. -/
theorem inv_at (K : Dev nD × Fin 13 → ℕ) (ck : Dev nD × Fin 13) {g : GSem nD τ sig} (hg : kcell ck = g) : records m K ⊢ cellInv ER (Rd m) (K ck) g := by
  subst hg; unfold records
  exact sep_elim_left.trans (BI.bigSep_elim (Finset.mem_univ ck))
/-- The records say that every cell has reached its round. -/
theorem reached_at (K : Dev nD × Fin 13 → ℕ) (ck : Dev nD × Fin 13) {g : GSem nD τ sig} (hg : kcell ck = g) : records m K ⊢ reached ER g 0 := by
  subst hg; unfold records
  exact sep_elim_right.trans (BI.bigSep_elim (Finset.mem_univ ck))

/-- The lane `(h, k)` of device `c` before its copy: its positions at its send and its receive cell, the tokens the copy
    pays with (its own send duty, the neighbour's receive duty), the credit of the landing it awaits. -/
def laneStart (c : Dev nD) (h : Fin 2) (k : Fin 3) : sProp 𝕄 :=
  iprop(atPos ER (sendCell c h k) 0 ∅ 0 ∗ atPos ER (recvCell c h k) 0 ∅ 0 ∗ dutyTok ER (sendCell c h k) 0 0
    ∗ dutyTok ER (recvCell (up k c) h k) 0 0 ∗ cred (tallyAt (recvCell c h k) () N))
/-- The lane with its copy in flight: the positions, the credits of the landing and of the copy being read. -/
def laneFlight (c : Dev nD) (h : Fin 2) (k : Fin 3) : sProp 𝕄 :=
  iprop(atPos ER (sendCell c h k) 0 ∅ 0 ∗ atPos ER (recvCell c h k) 0 ∅ 0 ∗ cred (tallyAt (sendCell c h k) () N)
    ∗ cred (tallyAt (recvCell c h k) () N))
/-- The lane once its copy has been read: the send cell closed, the third of the half back. -/
def laneSent (c : Dev nD) (h : Fin 2) (k : Fin 3) : sProp 𝕄 :=
  iprop(semVal (sendCell c h k) 0 ∗ sendPay m c h k ∗ atPos ER (recvCell c h k) 0 ∅ 0 ∗ cred (tallyAt (recvCell c h k) () N))
/-- The lane at its end: both cells closed, the neighbour's half in the mailbox. -/
def laneDone (c : Dev nD) (h : Fin 2) (k : Fin 3) : sProp 𝕄 :=
  iprop(semVal (sendCell c h k) 0 ∗ sendPay m c h k ∗ semVal (recvCell c h k) 0 ∗ recvPay m c h k)

section Rules
variable (K : Dev nD × Fin 13 → ℕ) (c : Dev nD)
variable {α : Type}

/-- The wp of a program of core `c`. -/
abbrev WP (p : Prog (TpuEff nD τ sig (Elt F) Λ₀ .tc) α) (Q : α → sProp 𝕄) : sProp 𝕄 :=
  wp frame (wpE (defs₀ (F := F)) 𝒱₀ (c : Thread nD τ) none) Set.univ p Q

/-- The entry signal to the device `k + 1` places on: one unit, handing it this device's mailboxes `(0, j + 1)` and
    `(1, j + 1)`, `j` the way back. -/
theorem wp_entry_signal (k : Fin 3) (n : Dev nD) (hn : n = up k c) (a : ℕ) (ha : a = 1) {κ : PUnit → Prog (TpuEff nD τ sig (Elt F) Λ₀ .tc) α} {Q : α → sProp 𝕄}
    (O₀ O : CellTallies nD τ sig Unit) (hO : O₀ = O + oB c k) (W : Waits sig Unit) :
    iprop(records m K ∗ owes (c : Thread nD τ) O₀ W ∗ dutyTok ER (barCell (up k c)) 0 (bk k) ∗ slotAny c 0 (bk k).succ ∗ slotAny c 1 (bk k).succ)
      ⊢ iprop((owes (c : Thread nD τ) O W -∗ WP c (κ ⟨⟩) Q) -∗ WP c (.op (.semSignal (n : Thread nD τ) barS a) κ) Q) := by
  subst hn ha
  iintro ⟨#HR, HO, Ht, Hs0, Hs1⟩ Hk
  iapply (Rounds.wp_signal 𝒱₀ ER (Rd m) (c : Thread nD τ) none (dst := (up k c : Thread nD τ)) (sem := barS) (κ := K (up k c, iB))
      (d := bk k) (by rw [duties_bar]; exact Finset.mem_univ _) (amount_bar m (up k c) (bk k)) () O hO) $$ [HO Ht Hs0 Hs1]
  · isplitr; · iapply (inv_at m K (up k c, iB) (kcell_B _)); iexact HR
    isplitl [HO]; · iexact HO
    isplitl [Ht]; · iexact Ht
    isplitl [Hs0 Hs1]
    · rw [payload_bar]; unfold barPay; rw [up_bk_up]
      isplitl [Hs0] <;> iassumption
    · iapply (reached_at m K (up k c, iB) (kcell_B _)); iexact HR
  iexact Hk

/-- The entry wait for the three signals: the neighbours' mailboxes come with it, and the barrier cell is closed. -/
theorem wp_entry_wait (a : ℕ) (ha : a = 3) {κ : PUnit → Prog (TpuEff nD τ sig (Elt F) Λ₀ .tc) α} {Q : α → sProp 𝕄} (W : Waits sig Unit) :
    iprop(records m K ∗ levAts L lv ∗ owes (c : Thread nD τ) (owe6 c) W ∗ cred (tallyAt (barCell c) () 3) ∗ atPos ER (barCell c) 0 ∅ 0)
      ⊢ iprop(((owes (c : Thread nD τ) (owe6 c) (insert (SemLoc.reg barS, ()) W) ∗ semVal (barCell c) 0 ∗ barPay c 0 ∗ barPay c 1 ∗ barPay c 2) -∗ WP c (κ ⟨⟩) Q)
        -∗ WP c (.op (.semWait barS a) κ) Q) := by
  subst ha
  iintro ⟨#HR, #Hl, HO, Hc, Hat⟩ Hk
  iapply (Rounds.wp_wait_rest_token 𝒱₀ ER (Rd m) (c : Thread nD τ) none (κ := K (c, iB))
      (wpE_semWait_eq 𝒱₀ (c : Thread nD τ) none Set.univ) (Set.mem_univ _) () (O := owe6 c) (W := W) (R := 0) (m := 0) (T := ∅)
      (by rw [expect_bar])) $$ [Hc HO Hat]
  · isplitr; · iapply (inv_at m K (c, iB) (kcell_B _)); iexact HR
    isplitl [Hc]; · iexact Hc
    isplitl [HO]; · iexact HO
    isplitr; · iapply (mayWait c (.reg barS) 1 (by rw [role_bar]; exact Nat.le_refl _) (owe6 c) (above_owe6 (by decide) c)); iexact Hl
    iexact Hat
  iintro ⟨HO, Hat, -, Hpay⟩
  ihave Hp := (Entails.of_eq (rest_bar m c)) $$ Hpay
  imod (Rounds.cell_close ER (Rd m) (Set.mem_univ (K (c, iB))) (fun h => h) (R := 0 + 1) (duties_later m (barCell c))) $$ [Hat] with Hz
  · isplitr; · iapply (inv_at m K (c, iB) (kcell_B _)); iexact HR
    iexact Hat
  iapply Hk
  isplitl [HO]; · iexact HO
  isplitl [Hz]; · iexact Hz
  iexact Hp

/-- A copy of one mailbox pays one landing's units. -/
theorem slot_amount (h : Fin 2) (s : Fin 4) (q : DmaSem sig) : (slotM h s).view.amount (.dma q) = N := rfl

/-- The share of the half lent to a copy is the send cell's payload; -/
theorem send_pays (h : Fin 2) (k : Fin 3) :
    (scrLoc c ↦[(slotM h 0).view.set]{Ring.shares3 fullShare k} (slotA h 0).write (Elt F) (m (scrLoc c)) (half m h c) Finset.univ)
      ⊢ (Rd m).payload (sendCell c h k) 0 0 := by
  rw [payload_send, slotM_set]; exact BI.Entails.refl _

/-- the mailbox written by the copy is the receive cell's. -/
theorem recv_pays (h : Fin 2) (k : Fin 3) (fd : Buf (Elt F) (scrLoc (up k c))) :
    (scrLoc (up k c) ↦[(slotM h k.succ).view.set]{fullShare} (slotM h k.succ).view.write (Elt F) fd
        ((slotM h 0).view.read (Elt F) ((slotA h 0).write (Elt F) (m (scrLoc c)) (half m h c) Finset.univ)) Finset.univ)
      ⊢ (Rd m).payload (recvCell (up k c) h k) 0 0 := by
  rw [payload_recv, recvPay, up_bk_up]; exact Entails.of_eq (slot_copied m c (up k c) h k.succ fd (m (scrLoc c)) (half m h c))

/-- The library's rule for a copy, at the cells of the lane `(h, k)`. -/
theorem wp_push_rule (h : Fin 2) (k : Fin 3)
    {hsc : (slotM h k.succ : Memref sig (Dev.tc (up k c) : Thread nD τ).2.kind .vmem S2x2048 .f32).view.ref.isScScratch = false}
    {hsrc : (slotM h 0).view.WordExact} {hdst : (slotM h k.succ).view.WordExact}
    {hsem : DmaTarget.Typed .vmem (.dma (recvS h k)) (.remote (Dev.tc (up k c) : Thread nD τ) (slotM h k.succ : Memref sig .tc .vmem S2x2048 .f32) (.dma (sendS h k)) hsc)}
    {κ : PUnit → Prog (TpuEff nD τ sig (Elt F) Λ₀ .tc) α} {Q : α → sProp 𝕄} (fd : Buf (Elt F) (scrLoc (up k c)))
    (O₀ O : CellTallies nD τ sig Unit) (hO : O₀ = O + oR c h k) (W : Waits sig Unit) :
    iprop(cellInv ER (Rd m) (K (c, iS h k)) (sendCell c h k) ∗ cellInv ER (Rd m) (K (up k c, iR h k)) (recvCell (up k c) h k)
        ∗ (scrLoc c ↦[(slotM h 0).view.set]{Ring.shares3 fullShare k} (slotA h 0).write (Elt F) (m (scrLoc c)) (half m h c) Finset.univ)
        ∗ (scrLoc (up k c) ↦[(slotM h k.succ).view.set]{fullShare} fd)
        ∗ owes (c : Thread nD τ) O₀ W
        ∗ dutyTok ER (sendCell c h k) 0 0 ∗ reached ER (sendCell c h k) 0
        ∗ dutyTok ER (recvCell (up k c) h k) 0 0 ∗ reached ER (recvCell (up k c) h k) 0)
      ⊢ iprop(((cred (tallyAt (sendCell c h k) () N) ∗ owes (c : Thread nD τ) O W) -∗ WP c (κ ⟨⟩) Q)
        -∗ WP c (.op (.enqueueDma (slotM h 0) (.remote (Dev.tc (up k c) : Thread nD τ) (slotM h k.succ) (.dma (sendS h k)) hsc) (.dma (recvS h k)) hsrc hdst hsem) κ) Q) :=
  Rounds.wp_send_pointsTo 𝒱₀ ER (Rd m) (c : Thread nD τ) none (κ₁ := K (c, iS h k)) (κ₂ := K (up k c, iR h k))
    (c' := (up k c : Thread nD τ)) (src := slotM h 0) (dst := (slotM h k.succ : Memref sig (Dev.tc (up k c) : Thread nD τ).2.kind .vmem S2x2048 .f32))
    (sS := .dma (sendS h k)) (sem := .dma (recvS h k)) (q := Ring.shares3 fullShare k)
    (fs := (slotA h 0).write (Elt F) (m (scrLoc c)) (half m h c) Finset.univ) (fd := fd) (k := κ) (Q := Q)
    (hsrc := hsrc) (hdst := hdst) (hsem := hsem) (hsc := hsc) (r₁ := 0) (r₂ := 0) (d₁ := 0) (d₂ := 0)
    (by rw [duties_send]; exact Finset.mem_singleton_self _) (by rw [duties_recv]; exact Finset.mem_singleton_self _)
    () () N (slot_amount h k.succ _) (amount_send m c h k 0) (amount_recv m (up k c) h k 0) O hO (W := W)
    (send_pays m c h k) (recv_pays m c h k fd)

/-- The copy of half `h` to the device `k + 1` places on, from mailbox `(h, 0)` into that device's mailbox `(h, k + 1)`. -/
theorem wp_push (h : Fin 2) (k : Fin 3) (n : Dev nD) (hn : n = up k c)
    {src dst : Memref sig .tc .vmem S2x2048 .f32} {sS sR : DmaSem sig}
    (hs : src = slotM h 0) (hd : dst = slotM h k.succ) (hsS : sS = sendS h k) (hsR : sR = recvS h k)
    {hsc : (dst : Memref sig (Dev.tc n : Thread nD τ).2.kind .vmem S2x2048 .f32).view.ref.isScScratch = false}
    {hsrc : src.view.WordExact} {hdst : dst.view.WordExact}
    {hsem : DmaTarget.Typed .vmem (.dma sR) (.remote (Dev.tc n : Thread nD τ) (dst : Memref sig .tc .vmem S2x2048 .f32) (.dma sS) hsc)}
    {κ : PUnit → Prog (TpuEff nD τ sig (Elt F) Λ₀ .tc) α} {Q : α → sProp 𝕄} (O₀ O : CellTallies nD τ sig Unit) (hO : O₀ = O + oR c h k) (W : Waits sig Unit) :
    iprop(records m K ∗ owes (c : Thread nD τ) O₀ W ∗ laneStart c h k ∗ sendPay m c h k ∗ slotAny (up k c) h k.succ)
      ⊢ iprop(((owes (c : Thread nD τ) O W ∗ laneFlight c h k) -∗ WP c (κ ⟨⟩) Q)
        -∗ WP c (.op (.enqueueDma src (.remote (Dev.tc n : Thread nD τ) dst (.dma sS) hsc) (.dma sR) hsrc hdst hsem) κ) Q) := by
  subst hn hs hd hsS hsR
  unfold laneStart laneFlight slotAny sendPay slotPts
  iintro ⟨#HR, HO, ⟨HaS, HaR, HtS, HtR, HcR⟩, Hsrc, ⟨%fd, Hdst⟩⟩ Hk
  iapply (wp_push_rule m K c h k fd O₀ O hO W) $$ [HO HtS HtR Hsrc Hdst]
  · isplitr; · iapply (inv_at m K (c, iS h k) (kcell_S _ _ _)); iexact HR
    isplitr; · iapply (inv_at m K (up k c, iR h k) (kcell_R _ _ _)); iexact HR
    isplitl [Hsrc]; · rw [slotM_set]; iexact Hsrc
    isplitl [Hdst]; · rw [slotM_set]; iexact Hdst
    isplitl [HO]; · iexact HO
    isplitl [HtS]; · iexact HtS
    isplitr; · iapply (reached_at m K (c, iS h k) (kcell_S _ _ _)); iexact HR
    isplitl [HtR]; · iexact HtR
    iapply (reached_at m K (up k c, iR h k) (kcell_R _ _ _)); iexact HR
  iintro ⟨HcS, HO⟩
  iapply Hk
  isplitl [HO]; · iexact HO
  isplitl [HaS]; · iexact HaS
  isplitl [HaR]; · iexact HaR
  isplitl [HcS] <;> iassumption

/-- The wait for the copy `(h, k)` to have been read: the lent third back, the send cell closed. -/
theorem wp_sent (h : Fin 2) (k : Fin 3) {src dst : Memref sig .tc .vmem S2x2048 .f32} {sS : DmaSem sig} (hsS : sS = sendS h k)
    (hN : dst.view.dmaCredit = N) {hsrc : src.view.WordExact} {hdst : dst.view.WordExact}
    {κ : PUnit → Prog (TpuEff nD τ sig (Elt F) Λ₀ .tc) α} {Q : α → sProp 𝕄} (W : Waits sig Unit) :
    iprop(records m K ∗ owes (c : Thread nD τ) 0 W ∗ laneFlight c h k)
      ⊢ iprop(((owes (c : Thread nD τ) 0 (insert (SemLoc.dma (sendS h k), ()) W) ∗ laneSent m c h k) -∗ WP c (κ ⟨⟩) Q)
        -∗ WP c (.op (.waitDma2 sS src dst hsrc hdst) κ) Q) := by
  subst hsS
  unfold laneFlight laneSent
  iintro ⟨#HR, HO, HaS, HaR, HcS, HcR⟩ Hk
  iapply (Rounds.wp_wait_rest_token 𝒱₀ ER (Rd m) (c : Thread nD τ) none (κ := K (c, iS h k)) (k' := N)
      (fun Kt => (wpE_waitDma2_eq 𝒱₀ (c : Thread nD τ) none Set.univ Kt).trans (by rw [hN])) (Set.mem_univ _) () (O := 0) (W := W) (R := 0) (m := 0) (T := ∅)
      (by rw [Nat.zero_add, expect_send])) $$ [HcS HO HaS]
  · isplitr; · iapply (inv_at m K (c, iS h k) (kcell_S _ _ _)); iexact HR
    isplitl [HcS]; · iexact HcS
    isplitl [HO]; · iexact HO
    isplitr; · rw [MayWait_zero]; iempintro
    iexact HaS
  iintro ⟨HO, HaS, -, Hpay⟩
  ihave Hp := (Entails.of_eq (rest_send m c h k)) $$ Hpay
  imod (Rounds.cell_close ER (Rd m) (Set.mem_univ (K (c, iS h k))) (fun h => h) (R := 0 + 1) (duties_later m (sendCell c h k))) $$ [HaS] with Hz
  · isplitr; · iapply (inv_at m K (c, iS h k) (kcell_S _ _ _)); iexact HR
    iexact HaS
  iapply Hk
  isplitl [HO]; · iexact HO
  isplitl [Hz]; · iexact Hz
  isplitl [Hp]; · iexact Hp
  isplitl [HaR] <;> iassumption

/-- The wait for the landing `(h, k)`: the mailbox holding the half of the device `k + 1` places back, the receive cell closed. -/
theorem wp_landed (h : Fin 2) (k : Fin 3) {src dst : Memref sig .tc .vmem S2x2048 .f32} {sR : DmaSem sig} (hsR : sR = recvS h k)
    (hN : dst.view.dmaCredit = N) {hsrc : src.view.WordExact} {hdst : dst.view.WordExact}
    {κ : PUnit → Prog (TpuEff nD τ sig (Elt F) Λ₀ .tc) α} {Q : α → sProp 𝕄} (W : Waits sig Unit) :
    iprop(records m K ∗ owes (c : Thread nD τ) 0 W ∗ laneSent m c h k)
      ⊢ iprop(((owes (c : Thread nD τ) 0 (insert (SemLoc.dma (recvS h k), ()) W) ∗ laneDone m c h k) -∗ WP c (κ ⟨⟩) Q)
        -∗ WP c (.op (.waitDma2 sR src dst hsrc hdst) κ) Q) := by
  subst hsR
  unfold laneSent laneDone
  iintro ⟨#HR, HO, Hz, Hp, HaR, HcR⟩ Hk
  iapply (Rounds.wp_wait_rest_token 𝒱₀ ER (Rd m) (c : Thread nD τ) none (κ := K (c, iR h k)) (k' := N)
      (fun Kt => (wpE_waitDma2_eq 𝒱₀ (c : Thread nD τ) none Set.univ Kt).trans (by rw [hN])) (Set.mem_univ _) () (O := 0) (W := W) (R := 0) (m := 0) (T := ∅)
      (by rw [Nat.zero_add, expect_recv])) $$ [HcR HO HaR]
  · isplitr; · iapply (inv_at m K (c, iR h k) (kcell_R _ _ _)); iexact HR
    isplitl [HcR]; · iexact HcR
    isplitl [HO]; · iexact HO
    isplitr; · rw [MayWait_zero]; iempintro
    iexact HaR
  iintro ⟨HO, HaR, -, Hpay⟩
  ihave Hq := (Entails.of_eq (rest_recv m c h k)) $$ Hpay
  imod (Rounds.cell_close ER (Rd m) (Set.mem_univ (K (c, iR h k))) (fun h => h) (R := 0 + 1) (duties_later m (recvCell c h k))) $$ [HaR] with Hz'
  · isplitr; · iapply (inv_at m K (c, iR h k) (kcell_R _ _ _)); iexact HR
    iexact HaR
  iapply Hk
  isplitl [HO]; · iexact HO
  isplitl [Hz]; · iexact Hz
  isplitl [Hp]; · iexact Hp
  isplitl [Hz'] <;> iassumption

/-- A load of a mailbox held at some share reads what it holds. -/
theorem wp_slot_load (h : Fin 2) (s : Fin 4) (q : PosShare TreeShare) (Y : Vec F S1x1x2x2048 .f32)
    {hl : (scrM : Memref sig .tc .vmem S2x4x2x2048 .f32).view.LoadsAt (slotRect h s).toLoadRect}
    {κ : Vec F S1x1x2x2048 .f32 → Prog (TpuEff nD τ sig (Elt F) Λ₀ .tc) α} {Q : α → sProp 𝕄} :
    slotPts m c h s q Y ⊢ iprop((slotPts m c h s q Y -∗ WP c (κ Y) Q)
      -∗ WP c (.op (.load scrM (slotRect h s).toLoadRect hl) κ) Q) := by
  unfold slotPts
  iintro H Hk
  iapply (wp_load_rect 𝒱₀ (c : Thread nD τ) none Set.univ (m := scrM) (r := slotRect h s) (hl := hl) (k := κ) (q := q) (Q := Q) (defs := defs₀ (F := F))
    (f := (slotA h s).write (Elt F) (m (scrLoc c)) Y Finset.univ) (S := slotSet h s) (Finset.Subset.refl _)) $$ H
  iintro H
  rw [View.read_write_univ]
  iapply Hk; iexact H

/-- A load of a mailbox held outright at unknown contents. -/
theorem wp_slot_load_any (h : Fin 2) (s : Fin 4) {hl : (scrM : Memref sig .tc .vmem S2x4x2x2048 .f32).view.LoadsAt (slotRect h s).toLoadRect}
    {κ : Vec F S1x1x2x2048 .f32 → Prog (TpuEff nD τ sig (Elt F) Λ₀ .tc) α} {Q : α → sProp 𝕄} :
    slotAny c h s ⊢ iprop((∀ Y, slotAny c h s -∗ WP c (κ Y) Q)
      -∗ WP c (.op (.load scrM (slotRect h s).toLoadRect hl) κ) Q) := by
  unfold slotAny
  iintro ⟨%f, H⟩ Hk
  iapply (wp_load_rect 𝒱₀ (c : Thread nD τ) none Set.univ (m := scrM) (r := slotRect h s) (hl := hl) (k := κ) (Q := Q) (defs := defs₀ (F := F))
    (f := f) (S := slotSet h s) (Finset.Subset.refl _)) $$ H
  iintro H
  iapply Hk
  iexists f; iexact H

/-- A store into a mailbox held outright. -/
theorem wp_slot_store (h : Fin 2) (s : Fin 4) (Y : Vec F S1x1x2x2048 .f32) {hst : (scrM.access (slotRect h s)).Stores Finset.univ} {hm}
    {κ : PUnit → Prog (TpuEff nD τ sig (Elt F) Λ₀ .tc) α} {Q : α → sProp 𝕄} :
    slotAny c h s ⊢ iprop((slotPts m c h s fullShare Y -∗ WP c (κ ⟨⟩) Q)
      -∗ WP c (.op (.store scrM (slotRect h s) Y Finset.univ hst hm) κ) Q) := by
  unfold slotAny
  iintro ⟨%f, H⟩ Hk
  iapply (wp_store 𝒱₀ (c : Thread nD τ) none Set.univ (m := scrM) (r := slotRect h s) (Mk := Finset.univ) (w := Y) (k := κ) (Q := Q) (defs := defs₀ (F := F))
    (f := f) (S := slotSet h s) (by rw [View.setOn_univ])) $$ H
  iintro H
  iapply Hk
  rw [← slotPts_of_write m c h s fullShare f Y]
  iexact H

end Rules

end Cert.YRing

end
-- ==== Proof.Body.lean ====
/-
# The body of the y-ring kernel, one grid point at a time
-/
module

public import proofs.«01_k».proof.Proof.Moves
public import Idealize.ShloMosaic.Lib.Pipeline.Value

@[expose] public section

set_option maxRecDepth 16384

noncomputable section

namespace Cert.YRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The offset list of zeros. -/
theorem zeros2 : (![0, 0] : Fin 2 → Nat) = fun _ => 0 := funext fun a => by fin_cases a <;> rfl

section Staged
variable (c : Dev nD) {α : Type}

/-- A load of the whole of a staged block reads the block. -/
theorem wp_load_owned {s : Shape} (M : Memref sig .tc .vmem s .f32) (off : Fin s.rank → Nat) (h0 : off = fun _ => 0) (inb : ∀ a, off a + s.size a ≤ s.size a)
    (X : Vec F s .f32) {hl : M.view.LoadsAt (Rect.unit off s.size inb).toLoadRect} {κ : Vec F s .f32 → Prog (TpuEff nD τ sig (Elt F) Λ₀ .tc) α} {Q : α → sProp 𝕄} :
    (owns (Ix := Unit) (Name := ℕ) (U := UU) (Lvl := ℕ) (c : Thread nD τ) M fullShare X : sProp 𝕄)
      ⊢ iprop((owns (c : Thread nD τ) M fullShare X -∗ WP c (κ X) Q)
        -∗ WP c (.op (.load M (Rect.unit off s.size inb).toLoadRect hl) κ) Q) := by
  unfold owns
  iintro ⟨%f, %hf, H⟩ Hk
  iapply (wp_load 𝒱₀ (c : Thread nD τ) none Set.univ (m := M) (hl := hl) (k := κ) (q := fullShare) (Q := Q) (defs := defs₀ (F := F)) (r := (Rect.unit off s.size inb).toLoadRect) (f := f) (S := M.view.set) (M.view.setOn_subset_set _)) $$ H
  iintro H
  rw [show M.view.readAt (Elt F) (Rect.unit off s.size inb).toLoadRect f = X from (View.ld_unit_zero h0 inb (M.view.read (Elt F) f)).trans hf]
  iapply Hk; iexists f
  isplitr; · ipureintro; exact hf
  iexact H

/-- A store of the whole of a staged block. -/
theorem wp_store_owned {s : Shape} (M : Memref sig .tc .vmem s .f32) (off : Fin s.rank → Nat) (h0 : off = fun _ => 0) (inb : ∀ a, off a + s.size a ≤ s.size a)
    (X Y : Vec F s .f32) {hst : (M.access (Rect.unit off s.size inb)).Stores Finset.univ} {hm} {κ : PUnit → Prog (TpuEff nD τ sig (Elt F) Λ₀ .tc) α} {Q : α → sProp 𝕄} :
    (owns (Ix := Unit) (Name := ℕ) (U := UU) (Lvl := ℕ) (c : Thread nD τ) M fullShare X : sProp 𝕄)
      ⊢ iprop((owns (c : Thread nD τ) M fullShare Y -∗ WP c (κ ⟨⟩) Q)
        -∗ WP c (.op (.store M (Rect.unit off s.size inb) Y Finset.univ hst hm) κ) Q) := by
  unfold owns
  iintro ⟨%f, %hf, H⟩ Hk
  iapply (wp_store 𝒱₀ (c : Thread nD τ) none Set.univ (m := M) (hx := hst) (k := κ) (Q := Q) (defs := defs₀ (F := F)) (r := Rect.unit off s.size inb) (w := Y) (Mk := Finset.univ) (f := f) (S := M.view.set)
    ((M.access (Rect.unit off s.size inb)).setOn_subset_set _ |>.trans (M.view.set_slice_subset _))) $$ H
  iintro H
  iapply Hk; iexists (M.access (Rect.unit off s.size inb)).write (Elt F) f Y Finset.univ
  isplitr
  · ipureintro
    exact (View.ld_unit_zero h0 inb (M.view.read (Elt F) ((M.access (Rect.unit off s.size inb)).write (Elt F) f Y Finset.univ))).symm.trans
      (View.read_write_univ (v := M.access (Rect.unit off s.size inb)) f Y)
  iexact H

end Staged

/-- A program at its end. -/
theorem wp_end (c : Dev nD) {Q : PUnit → sProp 𝕄} : Q ⟨⟩ ⊢ WP c (.ret ⟨⟩) Q := by
  iintro H; unfold WP; rw [wp_ret]; imodintro; iexact H

section Steps
variable (K : Dev nD × Fin 13 → ℕ) (c : Dev nD)
variable (i : grid0.Coords) (M1 M2 : Memref sig .tc .vmem S512x2048 .f32) (h1 : M1.IsWhole) (h2 : M2.IsWhole)
  (M3 : Memref sig .tc .vmem S2x2048 .f32) (h3 : M3.IsWhole) (X1 X2 : Vec F S512x2048 .f32)

/-- One grid point of the kernel, its block index and its windows' buffers given. -/
abbrev body : Prog (TpuEff nD τ sig (Elt F) Λ₀ .tc) PUnit :=
  cc0__body i M1 h1 M2 h2 M3 h3 scrM (Memref.isWhole_whole _) cc0_scratch1 cc0_scratch2

/-- The first point: the three entry signals, then the first block's sums into the mailbox `(0, 0)`. -/
theorem step0 (hi : (i 0).val = 0) (W : Waits sig Unit) (Q : PUnit → sProp 𝕄) :
    iprop(records m K ∗ owes (c : Thread nD τ) (owe9 c) W ∗ dutyTok ER (barCell (up 0 c)) 0 (bk 0) ∗ dutyTok ER (barCell (up 1 c)) 0 (bk 1) ∗ dutyTok ER (barCell (up 2 c)) 0 (bk 2)
        ∗ (∃ f, scrLoc c ↦{fullShare} f)
        ∗ owns (c : Thread nD τ) M1 fullShare X1 ∗ owns (c : Thread nD τ) M2 fullShare X2
        ∗ ((owes (c : Thread nD τ) (owe6 c) W ∗ slotPts m c 0 0 fullShare (k0_pay1 (k0_pay7 X1 X2)) ∗ slotAny c 1 0
            ∗ owns (c : Thread nD τ) M1 fullShare X1 ∗ owns (c : Thread nD τ) M2 fullShare X2) -∗ Q ⟨⟩))
      ⊢ WP c (body i M1 M2 h1 h2 M3 h3) Q := by
  have c1 : k0_cond1 i = 1#1 := by unfold k0_cond1; dsimp only; rw [hi]; decide
  have c3 : ¬ k0_cond3 i = 1#1 := by unfold k0_cond3; dsimp only; rw [hi]; decide
  have c5 : ¬ k0_cond5 i = 1#1 := by unfold k0_cond5; dsimp only; rw [hi]; decide
  have c2 : Scalar.cmpi .ne (Scalar.extui (Scalar.cmpi .eq 0#32 0#32)) 0#32 = 1#1 := by decide
  have c4 : ¬ Scalar.cmpi .ne (Scalar.extui (Scalar.cmpi .eq 0#32 2#32)) 0#32 = 1#1 := by decide
  unfold body
  simp only [cc0__body_eq_skeleton]; unfold cc0__body_skel
  simp only [k0_part9_eq_skeleton, k0_part10_eq_skeleton]; unfold k0_part9_skel k0_part10_skel
  simp only [dif_neg c3, dif_neg c5, dif_pos c1, hi]
  simp only [semSignalWord, semWaitWord, Prog.lift, Prog.bind_op, Prog.bind_ret, Prog.pure_eq_ret, wp_deviceId, dif_pos c2, dif_neg c4]
  iintro ⟨#HR, HO, Ht0, Ht1, Ht2, ⟨%f, Hs⟩, H1, H2, Hk⟩
  ihave Hs := (scr_split c f) $$ Hs
  icases Hs with ⟨⟨A00, A10⟩, ⟨A01, A11⟩, ⟨A02, A12⟩, ⟨A03, A13⟩⟩
  iapply (wp_entry_signal m K c 0 _ (dev1_eq c _) _ (by decide) (owe9 c) (owe6 c + oB c 2 + oB c 1) rfl W) $$ [HO Ht0 A03 A13]
  · isplitr; · iexact HR
    isplitl [HO]; · iexact HO
    isplitl [Ht0]; · iexact Ht0
    isplitl [A03]; · iexact A03
    iexact A13
  iintro HO
  iapply (wp_entry_signal m K c 1 _ (dev2_eq c _) _ (by decide) (owe6 c + oB c 2 + oB c 1) (owe6 c + oB c 2) rfl W) $$ [HO Ht1 A02 A12]
  · isplitr; · iexact HR
    isplitl [HO]; · iexact HO
    isplitl [Ht1]; · iexact Ht1
    isplitl [A02]; · iexact A02
    iexact A12
  iintro HO
  iapply (wp_entry_signal m K c 2 _ (dev3_eq c _) _ (by decide) (owe6 c + oB c 2) (owe6 c) rfl W) $$ [HO Ht2 A01 A11]
  · isplitr; · iexact HR
    isplitl [HO]; · iexact HO
    isplitl [Ht2]; · iexact Ht2
    isplitl [A01]; · iexact A01
    iexact A11
  iintro HO
  iapply (wp_load_owned c M1 _ zeros2 _ X1) $$ H1; iintro H1
  iapply (wp_load_owned c M2 _ zeros2 _ X2) $$ H2; iintro H2
  iapply (wp_slot_load_any c 0 0) $$ A00; iintro %Y A00
  iapply (wp_slot_store m c 0 0 (k0_pay1 (k0_pay7 X1 X2))) $$ A00; iintro A00
  iapply (wp_end c); iapply Hk
  isplitl [HO]; · iexact HO
  isplitl [A00]; · iexact A00
  isplitl [A10]; · iexact A10
  isplitl [H1] <;> iassumption

/-- The second point: the first half complete, the neighbours' entry awaited, the half copied to all three. -/
theorem step1 (hi : (i 0).val = 1) (W : Waits sig Unit) (Y : Vec F S1x1x2x2048 .f32) (hY : k0_pay4 (k0_pay7 X1 X2) Y = half m 0 c) (Q : PUnit → sProp 𝕄) :
    iprop(records m K ∗ levAts L lv ∗ owes (c : Thread nD τ) (owe6 c) W ∗ cred (tallyAt (barCell c) () 3) ∗ atPos ER (barCell c) 0 ∅ 0
        ∗ laneStart c 0 0 ∗ laneStart c 0 1 ∗ laneStart c 0 2 ∗ slotPts m c 0 0 fullShare Y
        ∗ owns (c : Thread nD τ) M1 fullShare X1 ∗ owns (c : Thread nD τ) M2 fullShare X2
        ∗ (((∃ W', owes (c : Thread nD τ) (owe1 c) W') ∗ semVal (barCell c) 0 ∗ laneFlight c 0 0 ∗ laneFlight c 0 1 ∗ laneFlight c 0 2
            ∗ slotAny (up 0 c) 1 1 ∗ slotAny (up 1 c) 1 2 ∗ slotAny (up 2 c) 1 3
            ∗ owns (c : Thread nD τ) M1 fullShare X1 ∗ owns (c : Thread nD τ) M2 fullShare X2) -∗ Q ⟨⟩))
      ⊢ WP c (body i M1 M2 h1 h2 M3 h3) Q := by
  have c1 : ¬ k0_cond1 i = 1#1 := by unfold k0_cond1; dsimp only; rw [hi]; decide
  have c3 : k0_cond3 i = 1#1 := by unfold k0_cond3; dsimp only; rw [hi]; decide
  have c5 : ¬ k0_cond5 i = 1#1 := by unfold k0_cond5; dsimp only; rw [hi]; decide
  have c2 : ¬ Scalar.cmpi .ne (Scalar.extui (Scalar.cmpi .eq 1#32 0#32)) 0#32 = 1#1 := by decide
  have c4 : ¬ Scalar.cmpi .ne (Scalar.extui (Scalar.cmpi .eq 1#32 2#32)) 0#32 = 1#1 := by decide
  unfold body
  simp only [cc0__body_eq_skeleton]; unfold cc0__body_skel
  simp only [k0_part9_eq_skeleton, k0_part10_eq_skeleton]; unfold k0_part9_skel k0_part10_skel
  simp only [dif_neg c1, dif_pos c3, dif_neg c5, hi]
  simp only [k0_part1_eq_skeleton]; unfold k0_part1_skel
  simp only [semSignalWord, semWaitWord, Prog.lift, Prog.bind_op, Prog.bind_ret, Prog.pure_eq_ret, wp_deviceId, dif_neg c2, dif_neg c4]
  iintro ⟨#HR, #Hl, HO, Hc, Hat, La0, La1, La2, HY, H1, H2, Hk⟩
  iapply (wp_load_owned c M1 _ zeros2 _ X1) $$ H1; iintro H1
  iapply (wp_load_owned c M2 _ zeros2 _ X2) $$ H2; iintro H2
  iapply (wp_slot_load m c 0 0 fullShare Y) $$ HY; iintro HY
  iapply (wp_slot_load m c 0 0 fullShare Y) $$ HY; iintro HY
  ihave HY := (slotAny_of_pts m c 0 0 Y) $$ HY
  iapply (wp_slot_store m c 0 0 (k0_pay4 (k0_pay7 X1 X2) Y)) $$ HY; iintro HY
  rw [hY]
  iapply (wp_entry_wait m K c _ (by decide) W) $$ [HO Hc Hat]
  · isplitr; · iexact HR
    isplitr; · iexact Hl
    isplitl [HO]; · iexact HO
    isplitl [Hc] <;> iassumption
  iintro ⟨HO, Hz, HB⟩
  unfold barPay
  icases HB with ⟨⟨B00, B10⟩, ⟨B01, B11⟩, ⟨B02, B12⟩⟩
  ihave HY := (slot_thirds m c 0 0 (half m 0 c)).1 $$ HY
  icases HY with ⟨P0, P1, P2⟩
  iapply (wp_push m K c 0 0 _ (dev4_eq c _) rfl rfl rfl rfl (owe6 c) (owe1 c + oR c 0 2 + oR c 0 1) rfl _) $$ [HO La0 P0 B00]
  · isplitr; · iexact HR
    isplitl [HO]; · iexact HO
    isplitl [La0]; · iexact La0
    isplitl [P0]; · unfold sendPay; iexact P0
    iexact B00
  iintro ⟨HO, La0⟩
  iapply (wp_push m K c 0 1 _ (dev5_eq c _) rfl rfl rfl rfl (owe1 c + oR c 0 2 + oR c 0 1) (owe1 c + oR c 0 2) rfl _) $$ [HO La1 P1 B01]
  · isplitr; · iexact HR
    isplitl [HO]; · iexact HO
    isplitl [La1]; · iexact La1
    isplitl [P1]; · unfold sendPay; iexact P1
    iexact B01
  iintro ⟨HO, La1⟩
  iapply (wp_push m K c 0 2 _ (dev6_eq c _) rfl rfl rfl rfl (owe1 c + oR c 0 2) (owe1 c) rfl _) $$ [HO La2 P2 B02]
  · isplitr; · iexact HR
    isplitl [HO]; · iexact HO
    isplitl [La2]; · iexact La2
    isplitl [P2]; · unfold sendPay; iexact P2
    iexact B02
  iintro ⟨HO, La2⟩
  iapply (wp_end c); iapply Hk
  isplitl [HO]; · iexists _; iexact HO
  isplitl [Hz]; · iexact Hz
  isplitl [La0]; · iexact La0
  isplitl [La1]; · iexact La1
  isplitl [La2]; · iexact La2
  isplitl [B10]; · iexact B10
  isplitl [B11]; · iexact B11
  isplitl [B12]; · iexact B12
  isplitl [H1] <;> iassumption

/-- The third point: the third block's sums into the mailbox `(1, 0)`. -/
theorem step2 (hi : (i 0).val = 2) (Q : PUnit → sProp 𝕄) :
    iprop(slotAny c 1 0 ∗ owns (c : Thread nD τ) M1 fullShare X1 ∗ owns (c : Thread nD τ) M2 fullShare X2
        ∗ ((slotPts m c 1 0 fullShare (k0_pay2 (k0_pay7 X1 X2))
            ∗ owns (c : Thread nD τ) M1 fullShare X1 ∗ owns (c : Thread nD τ) M2 fullShare X2) -∗ Q ⟨⟩))
      ⊢ WP c (body i M1 M2 h1 h2 M3 h3) Q := by
  have c1 : ¬ k0_cond1 i = 1#1 := by unfold k0_cond1; dsimp only; rw [hi]; decide
  have c3 : ¬ k0_cond3 i = 1#1 := by unfold k0_cond3; dsimp only; rw [hi]; decide
  have c5 : ¬ k0_cond5 i = 1#1 := by unfold k0_cond5; dsimp only; rw [hi]; decide
  have c2 : ¬ Scalar.cmpi .ne (Scalar.extui (Scalar.cmpi .eq 2#32 0#32)) 0#32 = 1#1 := by decide
  have c4 : Scalar.cmpi .ne (Scalar.extui (Scalar.cmpi .eq 2#32 2#32)) 0#32 = 1#1 := by decide
  unfold body
  simp only [cc0__body_eq_skeleton]; unfold cc0__body_skel
  simp only [k0_part9_eq_skeleton, k0_part10_eq_skeleton]; unfold k0_part9_skel k0_part10_skel
  simp only [dif_neg c1, dif_neg c3, dif_neg c5, hi]
  simp only [semSignalWord, semWaitWord, Prog.lift, Prog.bind_op, Prog.bind_ret, Prog.pure_eq_ret, wp_deviceId, dif_neg c2, dif_pos c4]
  iintro ⟨HY, H1, H2, Hk⟩
  iapply (wp_load_owned c M1 _ zeros2 _ X1) $$ H1; iintro H1
  iapply (wp_load_owned c M2 _ zeros2 _ X2) $$ H2; iintro H2
  iapply (wp_slot_load_any c 1 0) $$ HY; iintro %Y HY
  iapply (wp_slot_store m c 1 0 (k0_pay2 (k0_pay7 X1 X2))) $$ HY; iintro HY
  iapply (wp_end c); iapply Hk
  isplitl [HY]; · iexact HY
  isplitl [H1] <;> iassumption

/-- What the last point leaves in the result's block: the four devices' halves summed, this device's first. -/
def total (c : Dev nD) : Vec F S2x2048 .f32 :=
  k0_pay3 (k0_pay6 (half m 0 c) (half m 0 (up (bk 0) c))) (half m 0 (up (bk 1) c)) (half m 0 (up (bk 2) c))
    (half m 1 c) (half m 1 (up (bk 0) c)) (half m 1 (up (bk 1) c)) (half m 1 (up (bk 2) c))

/-- The cells of the six lanes, closed. -/
def lanesClosed (c : Dev nD) : sProp 𝕄 :=
  iprop((semVal (sendCell c 0 0) 0 ∗ semVal (recvCell c 0 0) 0) ∗ (semVal (sendCell c 0 1) 0 ∗ semVal (recvCell c 0 1) 0)
    ∗ (semVal (sendCell c 0 2) 0 ∗ semVal (recvCell c 0 2) 0) ∗ (semVal (sendCell c 1 0) 0 ∗ semVal (recvCell c 1 0) 0)
    ∗ (semVal (sendCell c 1 1) 0 ∗ semVal (recvCell c 1 1) 0) ∗ (semVal (sendCell c 1 2) 0 ∗ semVal (recvCell c 1 2) 0))

/-- The last point: the second half copied, every copy awaited, the eight mailboxes summed into the result. -/
theorem step3 (hi : (i 0).val = 3) (W : Waits sig Unit) (Y : Vec F S1x1x2x2048 .f32) (hY : k0_pay5 (k0_pay7 X1 X2) Y = half m 1 c) (Q : PUnit → sProp 𝕄) :
    iprop(records m K ∗ owes (c : Thread nD τ) (owe1 c) W ∗ laneFlight c 0 0 ∗ laneFlight c 0 1 ∗ laneFlight c 0 2
        ∗ laneStart c 1 0 ∗ laneStart c 1 1 ∗ laneStart c 1 2 ∗ slotAny (up 0 c) 1 1 ∗ slotAny (up 1 c) 1 2 ∗ slotAny (up 2 c) 1 3
        ∗ slotPts m c 1 0 fullShare Y
        ∗ owns (c : Thread nD τ) M1 fullShare X1 ∗ owns (c : Thread nD τ) M2 fullShare X2 ∗ (∃ X3, owns (c : Thread nD τ) M3 fullShare X3)
        ∗ (((∃ W', owes (c : Thread nD τ) 0 W') ∗ lanesClosed c ∗ (∃ f, scrLoc c ↦{fullShare} f)
            ∗ owns (c : Thread nD τ) M1 fullShare X1 ∗ owns (c : Thread nD τ) M2 fullShare X2 ∗ owns (c : Thread nD τ) M3 fullShare (total m c)) -∗ Q ⟨⟩))
      ⊢ WP c (body i M1 M2 h1 h2 M3 h3) Q := by
  have c1 : ¬ k0_cond1 i = 1#1 := by unfold k0_cond1; dsimp only; rw [hi]; decide
  have c3 : ¬ k0_cond3 i = 1#1 := by unfold k0_cond3; dsimp only; rw [hi]; decide
  have c5 : k0_cond5 i = 1#1 := by unfold k0_cond5; dsimp only; rw [hi]; decide
  have c2 : ¬ Scalar.cmpi .ne (Scalar.extui (Scalar.cmpi .eq 3#32 0#32)) 0#32 = 1#1 := by decide
  have c4 : ¬ Scalar.cmpi .ne (Scalar.extui (Scalar.cmpi .eq 3#32 2#32)) 0#32 = 1#1 := by decide
  unfold body
  simp only [cc0__body_eq_skeleton]; unfold cc0__body_skel
  simp only [k0_part9_eq_skeleton, k0_part10_eq_skeleton]; unfold k0_part9_skel k0_part10_skel
  simp only [dif_neg c1, dif_neg c3, dif_pos c5, hi]
  simp only [k0_part2_eq_skeleton, k0_part3_eq_skeleton, k0_part4_eq_skeleton, k0_part5_eq_skeleton, k0_part6_eq_skeleton, k0_part7_eq_skeleton, k0_part8_eq_skeleton]; unfold k0_part2_skel k0_part3_skel k0_part4_skel k0_part5_skel k0_part6_skel k0_part7_skel k0_part8_skel
  simp only [semSignalWord, semWaitWord, Prog.lift, Prog.bind_op, Prog.bind_ret, Prog.pure_eq_ret, wp_deviceId, dif_neg c2, dif_neg c4]
  iintro ⟨#HR, HO, L00, L01, L02, La0, La1, La2, B10, B11, B12, HY, H1, H2, ⟨%X3, H3⟩, Hk⟩
  iapply (wp_load_owned c M1 _ zeros2 _ X1) $$ H1; iintro H1
  iapply (wp_load_owned c M2 _ zeros2 _ X2) $$ H2; iintro H2
  iapply (wp_slot_load m c 1 0 fullShare Y) $$ HY; iintro HY
  iapply (wp_slot_load m c 1 0 fullShare Y) $$ HY; iintro HY
  ihave HY := (slotAny_of_pts m c 1 0 Y) $$ HY
  iapply (wp_slot_store m c 1 0 (k0_pay5 (k0_pay7 X1 X2) Y)) $$ HY; iintro HY
  rw [hY]
  ihave HY := (slot_thirds m c 1 0 (half m 1 c)).1 $$ HY
  icases HY with ⟨P0, P1, P2⟩
  iapply (wp_push m K c 1 0 _ (dev7_eq c _) rfl rfl rfl rfl (owe1 c) (0 + oR c 1 2 + oR c 1 1) rfl _) $$ [HO La0 P0 B10]
  · isplitr; · iexact HR
    isplitl [HO]; · iexact HO
    isplitl [La0]; · iexact La0
    isplitl [P0]; · unfold sendPay; iexact P0
    iexact B10
  iintro ⟨HO, La0⟩
  iapply (wp_push m K c 1 1 _ (dev8_eq c _) rfl rfl rfl rfl (0 + oR c 1 2 + oR c 1 1) (0 + oR c 1 2) rfl _) $$ [HO La1 P1 B11]
  · isplitr; · iexact HR
    isplitl [HO]; · iexact HO
    isplitl [La1]; · iexact La1
    isplitl [P1]; · unfold sendPay; iexact P1
    iexact B11
  iintro ⟨HO, La1⟩
  iapply (wp_push m K c 1 2 _ (dev9_eq c _) rfl rfl rfl rfl (0 + oR c 1 2) (0) rfl _) $$ [HO La2 P2 B12]
  · isplitr; · iexact HR
    isplitl [HO]; · iexact HO
    isplitl [La2]; · iexact La2
    isplitl [P2]; · unfold sendPay; iexact P2
    iexact B12
  iintro ⟨HO, La2⟩
  iapply (wp_sent m K c 0 0 (src := slotM 0 1) (dst := slotM 0 0) (sS := sendS 0 0) rfl rfl _) $$ [HO L00]
  · isplitr; · iexact HR
    isplitl [HO] <;> iassumption
  iintro ⟨HO, L00⟩
  iapply (wp_landed m K c 0 0 (src := slotM 0 0) (dst := slotM 0 1) (sR := recvS 0 0) rfl rfl _) $$ [HO L00]
  · isplitr; · iexact HR
    isplitl [HO] <;> iassumption
  iintro ⟨HO, L00⟩
  iapply (wp_sent m K c 0 1 (src := slotM 0 2) (dst := slotM 0 0) (sS := sendS 0 1) rfl rfl _) $$ [HO L01]
  · isplitr; · iexact HR
    isplitl [HO] <;> iassumption
  iintro ⟨HO, L01⟩
  iapply (wp_landed m K c 0 1 (src := slotM 0 0) (dst := slotM 0 2) (sR := recvS 0 1) rfl rfl _) $$ [HO L01]
  · isplitr; · iexact HR
    isplitl [HO] <;> iassumption
  iintro ⟨HO, L01⟩
  iapply (wp_sent m K c 0 2 (src := slotM 0 3) (dst := slotM 0 0) (sS := sendS 0 2) rfl rfl _) $$ [HO L02]
  · isplitr; · iexact HR
    isplitl [HO] <;> iassumption
  iintro ⟨HO, L02⟩
  iapply (wp_landed m K c 0 2 (src := slotM 0 0) (dst := slotM 0 3) (sR := recvS 0 2) rfl rfl _) $$ [HO L02]
  · isplitr; · iexact HR
    isplitl [HO] <;> iassumption
  iintro ⟨HO, L02⟩
  iapply (wp_sent m K c 1 0 (src := slotM 1 1) (dst := slotM 1 0) (sS := sendS 1 0) rfl rfl _) $$ [HO La0]
  · isplitr; · iexact HR
    isplitl [HO] <;> iassumption
  iintro ⟨HO, La0⟩
  iapply (wp_landed m K c 1 0 (src := slotM 1 0) (dst := slotM 1 1) (sR := recvS 1 0) rfl rfl _) $$ [HO La0]
  · isplitr; · iexact HR
    isplitl [HO] <;> iassumption
  iintro ⟨HO, La0⟩
  iapply (wp_sent m K c 1 1 (src := slotM 1 2) (dst := slotM 1 0) (sS := sendS 1 1) rfl rfl _) $$ [HO La1]
  · isplitr; · iexact HR
    isplitl [HO] <;> iassumption
  iintro ⟨HO, La1⟩
  iapply (wp_landed m K c 1 1 (src := slotM 1 0) (dst := slotM 1 2) (sR := recvS 1 1) rfl rfl _) $$ [HO La1]
  · isplitr; · iexact HR
    isplitl [HO] <;> iassumption
  iintro ⟨HO, La1⟩
  iapply (wp_sent m K c 1 2 (src := slotM 1 3) (dst := slotM 1 0) (sS := sendS 1 2) rfl rfl _) $$ [HO La2]
  · isplitr; · iexact HR
    isplitl [HO] <;> iassumption
  iintro ⟨HO, La2⟩
  iapply (wp_landed m K c 1 2 (src := slotM 1 0) (dst := slotM 1 3) (sR := recvS 1 2) rfl rfl _) $$ [HO La2]
  · isplitr; · iexact HR
    isplitl [HO] <;> iassumption
  iintro ⟨HO, La2⟩
  unfold laneDone sendPay recvPay
  icases L00 with ⟨S00, T00, R00, V00⟩
  icases L01 with ⟨S01, T01, R01, V01⟩
  icases L02 with ⟨S02, T02, R02, V02⟩
  icases La0 with ⟨S10, T10, R10, V10⟩
  icases La1 with ⟨S11, T11, R11, V11⟩
  icases La2 with ⟨S12, T12, R12, V12⟩
  ihave U0 := (slot_thirds m c 0 0 (half m 0 c)).2 $$ [T00 T01 T02]
  · isplitl [T00]; · iexact T00
    isplitl [T01] <;> iassumption
  ihave U1 := (slot_thirds m c 1 0 (half m 1 c)).2 $$ [T10 T11 T12]
  · isplitl [T10]; · iexact T10
    isplitl [T11] <;> iassumption
  iapply (wp_slot_load m c 0 0 fullShare (half m 0 c)) $$ U0; iintro U0
  iapply (wp_slot_load m c 0 (Fin.succ 0) fullShare (half m 0 (up (bk 0) c))) $$ V00; iintro V00
  iapply (wp_slot_load m c 0 (Fin.succ 1) fullShare (half m 0 (up (bk 1) c))) $$ V01; iintro V01
  iapply (wp_slot_load m c 0 (Fin.succ 2) fullShare (half m 0 (up (bk 2) c))) $$ V02; iintro V02
  iapply (wp_slot_load m c 1 0 fullShare (half m 1 c)) $$ U1; iintro U1
  iapply (wp_slot_load m c 1 (Fin.succ 0) fullShare (half m 1 (up (bk 0) c))) $$ V10; iintro V10
  iapply (wp_slot_load m c 1 (Fin.succ 1) fullShare (half m 1 (up (bk 1) c))) $$ V11; iintro V11
  iapply (wp_slot_load m c 1 (Fin.succ 2) fullShare (half m 1 (up (bk 2) c))) $$ V12; iintro V12
  iapply (wp_load_owned c M3 _ zeros2 _ X3) $$ H3; iintro H3
  iapply (wp_store_owned c M3 _ zeros2 _ X3 (total m c)) $$ H3; iintro H3
  ihave U0 := (slotAny_of_pts m c 0 0 (half m 0 c)) $$ U0
  ihave V00 := (slotAny_of_pts m c 0 (Fin.succ 0) (half m 0 (up (bk 0) c))) $$ V00
  ihave V01 := (slotAny_of_pts m c 0 (Fin.succ 1) (half m 0 (up (bk 1) c))) $$ V01
  ihave V02 := (slotAny_of_pts m c 0 (Fin.succ 2) (half m 0 (up (bk 2) c))) $$ V02
  ihave U1 := (slotAny_of_pts m c 1 0 (half m 1 c)) $$ U1
  ihave V10 := (slotAny_of_pts m c 1 (Fin.succ 0) (half m 1 (up (bk 0) c))) $$ V10
  ihave V11 := (slotAny_of_pts m c 1 (Fin.succ 1) (half m 1 (up (bk 1) c))) $$ V11
  ihave V12 := (slotAny_of_pts m c 1 (Fin.succ 2) (half m 1 (up (bk 2) c))) $$ V12
  ihave Hscr := (scr_join c (m (scrLoc c))) $$ [U0 U1 V00 V10 V01 V11 V02 V12]
  · isplitl [U0 U1]; · isplitl [U0] <;> iassumption
    isplitl [V00 V10]; · isplitl [V00]; · iexact V00
                         iexact V10
    isplitl [V01 V11]; · isplitl [V01]; · iexact V01
                         iexact V11
    isplitl [V02]; · iexact V02
    iexact V12
  iapply (wp_end c); iapply Hk
  isplitl [HO]; · iexists _; iexact HO
  isplitl [S00 R00 S01 R01 S02 R02 S10 R10 S11 R11 S12 R12]
  · unfold lanesClosed
    isplitl [S00 R00]; · isplitl [S00] <;> iassumption
    isplitl [S01 R01]; · isplitl [S01] <;> iassumption
    isplitl [S02 R02]; · isplitl [S02] <;> iassumption
    isplitl [S10 R10]; · isplitl [S10] <;> iassumption
    isplitl [S11 R11]; · isplitl [S11] <;> iassumption
    isplitl [S12] <;> iassumption
  isplitl [Hscr]; · iexact Hscr
  isplitl [H1]; · iexact H1
  isplitl [H2] <;> iassumption

end Steps

end Cert.YRing
-- ==== Proof.Points.lean ====
/-
# The body obligation of the y-ring kernel

What a device holds between the grid points, and the body taken from each to the next.
-/
module

public import proofs.«01_k».proof.Proof.Body

@[expose] public section

set_option maxRecDepth 16384

noncomputable section

namespace Cert.YRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The three lanes of a half before their copies, -/
def lanesStart (c : Dev nD) (h : Fin 2) : sProp 𝕄 := iprop(laneStart c h 0 ∗ laneStart c h 1 ∗ laneStart c h 2)
/-- and with their copies in flight. -/
def lanesFlight (c : Dev nD) (h : Fin 2) : sProp 𝕄 := iprop(laneFlight c h 0 ∗ laneFlight c h 1 ∗ laneFlight c h 2)
/-- The tokens of the three entry signals. -/
def entryToks (c : Dev nD) : sProp 𝕄 :=
  iprop(dutyTok ER (barCell (up 0 c)) 0 (bk 0) ∗ dutyTok ER (barCell (up 1 c)) 0 (bk 1) ∗ dutyTok ER (barCell (up 2 c)) 0 (bk 2))
/-- The neighbours' mailboxes the second half is copied to. -/
def boxes (c : Dev nD) : sProp 𝕄 := iprop(slotAny (up 0 c) 1 1 ∗ slotAny (up 1 c) 1 2 ∗ slotAny (up 2 c) 1 3)

/-- What a device starts from, but for its scratch. -/
def start (c : Dev nD) : sProp 𝕄 :=
  iprop(∃ K, records m K ∗ levAts L lv ∗ cred (tallyAt (barCell c) () 3) ∗ atPos ER (barCell c) 0 ∅ 0 ∗ entryToks c ∗ lanesStart c 0 ∗ lanesStart c 1)
/-- Before the first point, -/
def Φ₀ (c : Dev nD) : sProp 𝕄 := iprop(start m c ∗ ∃ f, scrLoc c ↦{fullShare} f)
/-- after the entry signals: the first block's sums stored, the other mailboxes given away; -/
def Φ₁ (c : Dev nD) : sProp 𝕄 :=
  iprop(∃ K, records m K ∗ levAts L lv ∗ cred (tallyAt (barCell c) () 3) ∗ atPos ER (barCell c) 0 ∅ 0 ∗ lanesStart c 0 ∗ lanesStart c 1
    ∗ slotPts m c 0 0 fullShare (k0_pay1 (part m c t0_0)) ∗ slotAny c 1 0)
/-- the first half in flight, `B` the state of the mailbox of the second; -/
def mid (c : Dev nD) (B : sProp 𝕄) : sProp 𝕄 :=
  iprop(∃ K, records m K ∗ semVal (barCell c) 0 ∗ lanesFlight c 0 ∗ lanesStart c 1 ∗ boxes c ∗ B)
/-- at the end: the scratch whole, every cell closed. -/
def Φ₄ (c : Dev nD) : sProp 𝕄 := iprop(semVal (barCell c) 0 ∗ lanesClosed c ∗ ∃ f, scrLoc c ↦{fullShare} f)

/-- The run's data: the arrays at launch, each window after each point, the state between points and what is owed there. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => total m c
  Φ t := match t with
    | ⟨0, _⟩ => Φ₀ m c
    | ⟨1, _⟩ => Φ₁ m c
    | ⟨2, _⟩ => mid m c (slotAny c 1 0)
    | ⟨3, _⟩ => mid m c (slotPts m c 1 0 fullShare (k0_pay2 (part m c t0_2)))
    | ⟨_ + 4, _⟩ => Φ₄ c
  q _ := fullShare
  owed t := match t with
    | ⟨0, _⟩ => owe9 c
    | ⟨1, _⟩ => owe6 c
    | ⟨2, _⟩ => owe1 c
    | ⟨3, _⟩ => owe1 c
    | ⟨_ + 4, _⟩ => 0

/-- Before a point the first window holds its current block. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
/-- Before a point the second window holds its current block. -/
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- The current block of each window at a point. -/
abbrev stgIn (c : Dev nD) (t : Fin cfg0.N) : sProp 𝕄 :=
  iprop((∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)))
/-- The windows after a point that does not write the output. -/
abbrev stgMid (c : Dev nD) (t : Fin cfg0.N) : sProp 𝕄 :=
  iprop(owns (c : Thread nD τ) (st0_0 t) fullShare (iblk m c 0 t) ∗ owns (c : Thread nD τ) (st0_1 t) fullShare (iblk m c 1 t)
    ∗ (∃ d, owns (c : Thread nD τ) (st0_2 t) fullShare ((dats m 0 c).before 2 t d)))
/-- The windows after the point that writes the output. -/
abbrev stgOut (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (total m c))

/-- What is owed at a point is what is owed at any credits waited on. -/
theorem owesAt_intro (c : Dev nD) (j : Fin (cfg0.N + 1)) (O : CellTallies nD τ sig Unit) (h : (dats m 0 c).owed j = O) :
    iprop(∃ W, owes (c : Thread nD τ) O W) ⊢ (dats m 0 c).owesAt () j := by
  subst h
  unfold Dat.owesAt Pipeline.owesWithin
  iintro ⟨%W, H⟩
  iexists W; isplitr; · ipureintro; exact fun _ _ => Or.inl trivial
  iexact H
/-- What is owed at a point, at some credits waited on. -/
theorem owesAt_elim (c : Dev nD) (j : Fin (cfg0.N + 1)) (O : CellTallies nD τ sig Unit) (h : (dats m 0 c).owed j = O) :
    (dats m 0 c).owesAt () j ⊢ iprop(∃ W, owes (c : Thread nD τ) O W) := by
  subst h
  unfold Dat.owesAt Pipeline.owesWithin
  iintro ⟨%W, %hW, H⟩
  iexists W; iexact H

/-- The kernel's body at a grid point. -/
abbrev bodyAt (t : Fin cfg0.N) : Prog (TpuEff nD τ sig (Elt F) Λ₀ .tc) PUnit :=
  body (grid0.coords t) (st0_0 t) (st0_1 t) (hstage0_0 ((cfg0.slots t 0).cast nbuf0_0)) (hstage0_1 ((cfg0.slots t 1).cast nbuf0_1)) (st0_2 t)
    (hstage0_2 ((cfg0.slots t 2).cast nbuf0_2))

/-- The first point: three signals, and the first block's partial into the first half's own mailbox. -/
theorem point0 (c : Dev nD) :
    iprop(Φ₀ m c ∗ (dats m 0 c).owesAt () t0_0.castSucc ∗ stgIn m c t0_0)
      ⊢ WP c (bodyAt t0_0) fun _ => iprop(Φ₁ m c ∗ (dats m 0 c).owesAt () t0_0.succ ∗ stgMid m c t0_0) := by
  iintro ⟨HΦ, HO, ⟨%d0, H1⟩, ⟨%d1, H2⟩, H3⟩
  rw [before_0, before_1]
  ihave HO := (owesAt_elim m c _ _ rfl) $$ HO
  icases HO with ⟨%W, HO⟩
  unfold Φ₀ start entryToks
  icases HΦ with ⟨⟨%K, #HR, #Hl, Hc, Hat, ⟨T0, T1, T2⟩, L0, L1⟩, Hs⟩
  iapply (step0 m K c (grid0.coords t0_0) (st0_0 t0_0) (st0_1 t0_0) _ _ (st0_2 t0_0) _ (iblk m c 0 t0_0) (iblk m c 1 t0_0) rfl W)
  isplitr; · iexact HR
  isplitl [HO]; · iexact HO
  isplitl [T0]; · iexact T0
  isplitl [T1]; · iexact T1
  isplitl [T2]; · iexact T2
  isplitl [Hs]; · iexact Hs
  isplitl [H1]; · iexact H1
  isplitl [H2]; · iexact H2
  iintro ⟨HO, HY, HA, H1, H2⟩
  isplitl [Hc Hat L0 L1 HY HA]
  · unfold Φ₁
    iexists K
    isplitr; · iexact HR
    isplitr; · iexact Hl
    isplitl [Hc]; · iexact Hc
    isplitl [Hat]; · iexact Hat
    isplitl [L0]; · iexact L0
    isplitl [L1]; · iexact L1
    isplitl [HY]; · iexact HY
    iexact HA
  isplitl [HO]; · iapply (owesAt_intro m c _ _ rfl); iexists W; iexact HO
  isplitl [H1]; · iexact H1
  isplitl [H2]; · iexact H2
  iexact H3

/-- The second point: its partial added, the barrier awaited, and the first half's three copies started. -/
theorem point1 (c : Dev nD) :
    iprop(Φ₁ m c ∗ (dats m 0 c).owesAt () t0_1.castSucc ∗ stgIn m c t0_1)
      ⊢ WP c (bodyAt t0_1) fun _ => iprop(mid m c (slotAny c 1 0) ∗ (dats m 0 c).owesAt () t0_1.succ ∗ stgMid m c t0_1) := by
  iintro ⟨HΦ, HO, ⟨%d0, H1⟩, ⟨%d1, H2⟩, H3⟩
  rw [before_0, before_1]
  ihave HO := (owesAt_elim m c _ _ rfl) $$ HO
  icases HO with ⟨%W, HO⟩
  unfold Φ₁ lanesStart
  icases HΦ with ⟨%K, #HR, #Hl, Hc, Hat, ⟨L0, L1, L2⟩, ⟨M0, M1, M2⟩, HY, HA⟩
  iapply (step1 m K c (grid0.coords t0_1) (st0_0 t0_1) (st0_1 t0_1) _ _ (st0_2 t0_1) _ (iblk m c 0 t0_1) (iblk m c 1 t0_1) rfl W
    (k0_pay1 (part m c t0_0)) rfl)
  isplitr; · iexact HR
  isplitr; · iexact Hl
  isplitl [HO]; · iexact HO
  isplitl [Hc]; · iexact Hc
  isplitl [Hat]; · iexact Hat
  isplitl [L0]; · iexact L0
  isplitl [L1]; · iexact L1
  isplitl [L2]; · iexact L2
  isplitl [HY]; · iexact HY
  isplitl [H1]; · iexact H1
  isplitl [H2]; · iexact H2
  iintro ⟨HO, Hz, L0, L1, L2, B0, B1, B2, H1, H2⟩
  isplitl [Hz L0 L1 L2 M0 M1 M2 B0 B1 B2 HA]
  · unfold mid lanesFlight lanesStart boxes
    iexists K
    isplitr; · iexact HR
    isplitl [Hz]; · iexact Hz
    isplitl [L0 L1 L2]
    · isplitl [L0]; · iexact L0
      isplitl [L1] <;> iassumption
    isplitl [M0 M1 M2]
    · isplitl [M0]; · iexact M0
      isplitl [M1] <;> iassumption
    isplitl [B0 B1 B2]
    · isplitl [B0]; · iexact B0
      isplitl [B1] <;> iassumption
    iexact HA
  isplitl [HO]; · iapply (owesAt_intro m c _ _ rfl); iexact HO
  isplitl [H1]; · iexact H1
  isplitl [H2]; · iexact H2
  iexact H3

/-- The third point: its partial into the second half's own mailbox, the first half's copies in flight. -/
theorem point2 (c : Dev nD) :
    iprop(mid m c (slotAny c 1 0) ∗ (dats m 0 c).owesAt () t0_2.castSucc ∗ stgIn m c t0_2)
      ⊢ WP c (bodyAt t0_2) fun _ => iprop(mid m c (slotPts m c 1 0 fullShare (k0_pay2 (part m c t0_2))) ∗ (dats m 0 c).owesAt () t0_2.succ ∗ stgMid m c t0_2) := by
  iintro ⟨HΦ, HO, ⟨%d0, H1⟩, ⟨%d1, H2⟩, H3⟩
  rw [before_0, before_1]
  ihave HO := (owesAt_elim m c _ _ rfl) $$ HO
  unfold mid
  icases HΦ with ⟨%K, #HR, Hz, L0, L1, HB, HY⟩
  iapply (step2 m c (grid0.coords t0_2) (st0_0 t0_2) (st0_1 t0_2) _ _ (st0_2 t0_2) _ (iblk m c 0 t0_2) (iblk m c 1 t0_2) rfl)
  isplitl [HY]; · iexact HY
  isplitl [H1]; · iexact H1
  isplitl [H2]; · iexact H2
  iintro ⟨HY, H1, H2⟩
  isplitl [Hz L0 L1 HB HY]
  · iexists K
    isplitr; · iexact HR
    isplitl [Hz]; · iexact Hz
    isplitl [L0]; · iexact L0
    isplitl [L1]; · iexact L1
    isplitl [HB]; · iexact HB
    iexact HY
  isplitl [HO]; · iapply (owesAt_intro m c _ _ rfl); iexact HO
  isplitl [H1]; · iexact H1
  isplitl [H2]; · iexact H2
  iexact H3

/-- The fourth point: its partial added, the second half's copies started, all twelve waits, and the total written. -/
theorem point3 (c : Dev nD) :
    iprop(mid m c (slotPts m c 1 0 fullShare (k0_pay2 (part m c t0_2))) ∗ (dats m 0 c).owesAt () t0_3.castSucc ∗ stgIn m c t0_3)
      ⊢ WP c (bodyAt t0_3) fun _ => iprop(Φ₄ c ∗ (dats m 0 c).owesAt () t0_3.succ ∗ stgOut m c t0_3) := by
  iintro ⟨HΦ, HO, ⟨%d0, H1⟩, ⟨%d1, H2⟩, ⟨%d2, H3⟩⟩
  rw [before_0, before_1]
  ihave HO := (owesAt_elim m c _ _ rfl) $$ HO
  icases HO with ⟨%W, HO⟩
  unfold mid lanesFlight lanesStart boxes
  icases HΦ with ⟨%K, #HR, Hz, ⟨L0, L1, L2⟩, ⟨M0, M1, M2⟩, ⟨B0, B1, B2⟩, HY⟩
  iapply (step3 m K c (grid0.coords t0_3) (st0_0 t0_3) (st0_1 t0_3) _ _ (st0_2 t0_3) _ (iblk m c 0 t0_3) (iblk m c 1 t0_3) rfl W
    (k0_pay2 (part m c t0_2)) rfl)
  isplitr; · iexact HR
  isplitl [HO]; · iexact HO
  isplitl [L0]; · iexact L0
  isplitl [L1]; · iexact L1
  isplitl [L2]; · iexact L2
  isplitl [M0]; · iexact M0
  isplitl [M1]; · iexact M1
  isplitl [M2]; · iexact M2
  isplitl [B0]; · iexact B0
  isplitl [B1]; · iexact B1
  isplitl [B2]; · iexact B2
  isplitl [HY]; · iexact HY
  isplitl [H1]; · iexact H1
  isplitl [H2]; · iexact H2
  isplitl [H3]; · iexists _; iexact H3
  iintro ⟨HO, HL, Hs, H1, H2, H3⟩
  isplitl [Hz HL Hs]
  · unfold Φ₄
    isplitl [Hz]; · iexact Hz
    isplitl [HL] <;> iassumption
  isplitl [HO]; · iapply (owesAt_intro m c _ _ rfl); iexact HO
  isplitl [H1]; · iexact H1
  isplitl [H2]; · iexact H2
  iexact H3

/-- The output window is written at the last point alone. -/
theorem idle_out (t : Fin cfg0.N) : cfg0.idle 2 (cfg0.grid.coords t) = !decide (t.val = 3) := by
  rcases fin_N0 t with rfl | rfl | rfl | rfl <;> decide
/-- The output window is written back at the last point alone. -/
theorem flush_out (t : Fin cfg0.N) : (cfg0.win 2).flush t = decide (t.val = 3) := by
  have h := flush0_2 t
  rcases fin_N0 t with rfl | rfl | rfl | rfl
  all_goals first
    | exact h.mpr (by decide)
    | exact Bool.eq_false_iff.mpr fun e => absurd (h.mp e) (by decide)

/-- The library's body obligation on core `c`. -/
theorem body_obligation (c : Dev nD) : BodyObligation (dats (F := F) m 0 c) (defs₀ (F := F)) 𝒱₀ () Set.univ := fun t => by
  rw [bigSep_W0, bigSep_W0]
  rcases fin_N0 t with rfl | rfl | rfl | rfl
  · have hi : cfg0.idle 2 (cfg0.grid.coords t0_0) = true := idle_out _
    have hf : (cfg0.win 2).flush t0_0 = false := flush_out _
    simp only [hi, hf]; exact point0 m c
  · have hi : cfg0.idle 2 (cfg0.grid.coords t0_1) = true := idle_out _
    have hf : (cfg0.win 2).flush t0_1 = false := flush_out _
    simp only [hi, hf]; exact point1 m c
  · have hi : cfg0.idle 2 (cfg0.grid.coords t0_2) = true := idle_out _
    have hf : (cfg0.win 2).flush t0_2 = false := flush_out _
    simp only [hi, hf]; exact point2 m c
  · have hi : cfg0.idle 2 (cfg0.grid.coords t0_3) = false := idle_out _
    simp only [hi]; exact point3 m c

end Cert.YRing

end
-- ==== Proof.Launch.lean ====
/-
# The launch of the y-ring kernel

The thirteen cells of each device opened, the tokens dealt around the rings, the launch credit read, and the run.
-/
module

public import proofs.«01_k».proof.Proof.Points
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.YRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The copies' semaphores are the kernel's own twelve. -/
abbrev osem (j : Fin 12) : SemLoc sig := .dma (⟨5 + j.val, by omega⟩ : Fin 17)

/-- The semaphores that are the call's own are distinct and scoped to it. -/
theorem ownSemFacts : Pipeline.OwnSemFacts cfg0.spec osem := by decide

/-- Every window is held at the full share. -/
theorem share_eq (c : Dev nD) (w : Fin cfg0.W) : (dats m 0 c).share w = fullShare := by unfold Dat.share; split <;> rfl

/-- The thirteen cells of a device are distinct. -/
theorem csem_injective : Function.Injective csem := by decide
/-- The cells of all devices are distinct. -/
theorem kcell_injective : Function.Injective (kcell : Dev nD × Fin 13 → GSem nD τ sig) := by
  rintro ⟨c, k⟩ ⟨c', k'⟩ h
  exact Prod.ext (congrArg (fun g : GSem nD τ sig => g.1.1) h) (csem_injective (congrArg Prod.snd h))
/-- All cells of all devices. -/
def ringCells : Finset (GSem nD τ sig) := Finset.univ.map ⟨kcell, kcell_injective⟩

/-- A device's own cells' duties: its barrier's three, one per copy sent, one per copy received. -/
abbrev Duty : Type := Fin 3 ⊕ ((Fin 2 × Fin 3) ⊕ (Fin 2 × Fin 3))
/-- The semaphore a duty is on, and its number there. -/
abbrev dutySem : Duty → SemLoc sig × Fin 3
  | .inl j => (.reg barS, j)
  | .inr (.inl l) => (.dma (sendS l.1 l.2), 0)
  | .inr (.inr l) => (.dma (recvS l.1 l.2), 0)
/-- Two duties differ in their semaphore or their number. -/
theorem dutySem_injective : Function.Injective dutySem := by decide
/-- The cell, the round and the number of a device's duty. -/
abbrev tokOf (cj : Dev nD × Duty) : GSem nD τ sig × ℕ × Fin 3 := (((cj.1 : Thread nD τ), (dutySem cj.2).1), 0, (dutySem cj.2).2)
/-- The duties of all devices are distinct. -/
theorem tokOf_injective : Function.Injective (tokOf : Dev nD × Duty → GSem nD τ sig × ℕ × Fin 3) := by
  rintro ⟨c, j⟩ ⟨c', j'⟩ h
  refine Prod.ext (congrArg (fun x : GSem nD τ sig × ℕ × Fin 3 => x.1.1.1) h) (dutySem_injective (Prod.ext ?_ ?_))
  · exact congrArg (fun x : GSem nD τ sig × ℕ × Fin 3 => x.1.2) h
  · exact congrArg (fun x : GSem nD τ sig × ℕ × Fin 3 => x.2.2) h
/-- The duties of all devices. -/
def ringToks : Finset (GSem nD τ sig × ℕ × Fin 3) := Finset.univ.map ⟨tokOf, tokOf_injective⟩

/-- The ghost element the launch begins from: the pipeline's part and the ring's part. -/
def u₀ : UU :=
  (initOf (Pipeline.cells cfgs cellOf_inj) (Pipeline.launchToks cfgs cellOf_inj), initOf ringCells ringToks)

/-- The duty tokens of a device's own cells, as minted. -/
def toks (c : Dev nD) : sProp 𝕄 :=
  iprop((bigSep Finset.univ fun j : Fin 3 => dutyTok ER (barCell c) 0 j)
    ∗ (bigSep Finset.univ fun l : Fin 2 × Fin 3 => dutyTok ER (sendCell c l.1 l.2) 0 0)
    ∗ (bigSep Finset.univ fun l : Fin 2 × Fin 3 => dutyTok ER (recvCell c l.1 l.2) 0 0))
/-- The tokens of the duties a device pays. -/
def payToks (c : Dev nD) : sProp 𝕄 :=
  iprop((bigSep Finset.univ fun j : Fin 3 => dutyTok ER (barCell (up (bk j) c)) 0 j)
    ∗ (bigSep Finset.univ fun l : Fin 2 × Fin 3 => dutyTok ER (sendCell c l.1 l.2) 0 0)
    ∗ (bigSep Finset.univ fun l : Fin 2 × Fin 3 => dutyTok ER (recvCell (up l.2 c) l.1 l.2) 0 0))

/-- What the launch element deals device `c`. -/
def G (c : Dev nD) : sProp 𝕄 :=
  iprop((bigSep Finset.univ fun k : Fin 13 => roundState ER (Rd m) (kcell (c, k)) 0)
    ∗ (bigSep Finset.univ fun k : Fin 13 => iprop(atPos ER (kcell (c, k)) 0 ∅ 0 ∗ reached ER (kcell (c, k)) 0)) ∗ toks c)
/-- What the global step makes of it: the records, the device's positions and the tokens it pays with. -/
def G' (c : Dev nD) : sProp 𝕄 :=
  iprop(∃ K, records m K ∗ (bigSep Finset.univ fun k : Fin 13 => atPos ER (kcell (c, k)) 0 ∅ 0) ∗ payToks c)

/-- The ring's part deals each device its cells' states, its positions and its cells' tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks; rw [BI.bigSep_map, BI.bigSep_univ_prod]
    exact BI.bigSep_congr fun c _ => by unfold toks; rw [BI.bigSep_univ_sum, BI.bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A conjunction over the six lanes, written out. -/
theorem bigSep_lanes (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ
/-- A conjunction over three, written out. -/
theorem bigSep_three (Φ : Fin 3 → sProp 𝕄) : bigSep Finset.univ Φ = iprop(Φ 0 ∗ Φ 1 ∗ Φ 2) :=
  bigSep_univ_eq_bigSepL [0, 1, 2] (by decide) (by decide) Φ
/-- The thirteen cells: sends, receives, the barrier. -/
theorem bigSep_cells (c : Dev nD) (Φ : GSem nD τ sig → sProp 𝕄) :
    (bigSep Finset.univ fun k : Fin 13 => Φ (kcell (c, k)))
      = iprop(Φ (sendCell c 0 0) ∗ Φ (sendCell c 0 1) ∗ Φ (sendCell c 0 2) ∗ Φ (sendCell c 1 0) ∗ Φ (sendCell c 1 1) ∗ Φ (sendCell c 1 2)
        ∗ Φ (recvCell c 0 0) ∗ Φ (recvCell c 0 1) ∗ Φ (recvCell c 0 2) ∗ Φ (recvCell c 1 0) ∗ Φ (recvCell c 1 1) ∗ Φ (recvCell c 1 2)
        ∗ Φ (barCell c)) := by
  rw [bigSep_univ_eq_bigSepL [iS 0 0, iS 0 1, iS 0 2, iS 1 0, iS 1 1, iS 1 2, iR 0 0, iR 0 1, iR 0 2, iR 1 0, iR 1 1, iR 1 2, iB] (by decide) (by decide)]
  rfl

/-- The call's own semaphores at zero are the twelve send and receive cells at zero. -/
theorem ownSems0_eq (c : Dev nD) : (Pipeline.ownSems0 (Ix := Unit) (Name := ℕ) (U := UU) (Lvl := ℕ) (Val := Elt F) (τ := τ) osem c : sProp 𝕄)
    = iprop(semVal (sendCell c 0 0) 0 ∗ semVal (sendCell c 0 1) 0 ∗ semVal (sendCell c 0 2) 0 ∗ semVal (sendCell c 1 0) 0 ∗ semVal (sendCell c 1 1) 0 ∗ semVal (sendCell c 1 2) 0
        ∗ semVal (recvCell c 0 0) 0 ∗ semVal (recvCell c 0 1) 0 ∗ semVal (recvCell c 0 2) 0 ∗ semVal (recvCell c 1 0) 0 ∗ semVal (recvCell c 1 1) 0 ∗ semVal (recvCell c 1 2) 0) := by
  rw [Pipeline.ownSems0_eq_of_list c osem [0, 1, 2, 3, 4, 5, 6, 7, 8, 9, 10, 11] (by decide) (by decide)]; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The own semaphores and the barrier at zero are the thirteen cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_cells c (fun g => semVal g 0)]
  iintro ⟨⟨S0, S1, S2, S3, S4, S5, R0, R1, R2, R3, R4, R5⟩, HB⟩
  isplitl [S0]; · iexact S0
  isplitl [S1]; · iexact S1
  isplitl [S2]; · iexact S2
  isplitl [S3]; · iexact S3
  isplitl [S4]; · iexact S4
  isplitl [S5]; · iexact S5
  isplitl [R0]; · iexact R0
  isplitl [R1]; · iexact R1
  isplitl [R2]; · iexact R2
  isplitl [R3]; · iexact R3
  isplitl [R4]; · iexact R4
  isplitl [R5]; · iexact R5
  iexact HB

/-- A device puts each of its cells under an invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family of tokens over devices and numbers, each number's turned by its own permutation of the devices. -/
theorem bigSep_turn {J : Type} [Fintype J] [DecidableEq J] (e : J → Dev nD ≃ Dev nD) (Φ : Dev nD → J → sProp 𝕄) :
    (bigSep Finset.univ fun c : Dev nD => bigSep Finset.univ fun j => Φ c j) = bigSep Finset.univ fun c : Dev nD => bigSep Finset.univ fun j => Φ (e j c) j := by
  let E : Dev nD × J ≃ Dev nD × J :=
    ⟨fun p => (e p.2 p.1, p.2), fun p => ((e p.2).symm p.1, p.2), fun p => by simp, fun p => by simp⟩
  rw [← BI.bigSep_univ_prod (fun p : Dev nD × J => Φ p.1 p.2), ← BI.bigSep_univ_prod (fun p : Dev nD × J => Φ (e p.2 p.1) p.2)]
  exact BI.bigSep_univ_equiv E (fun p => Φ p.1 p.2)

/-- The tokens dealt around the rings: each cell's token to the device that pays it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_turn (fun j => upE (bk j)) (fun c j => (dutyTok ER (barCell c) 0 j : sProp 𝕄)),
    bigSep_turn (fun l : Fin 2 × Fin 3 => upE l.2) (fun c l => (dutyTok ER (recvCell c l.1 l.2) 0 0 : sProp 𝕄))]
  exact BI.Entails.refl _

/-- A persistent fact is dealt to every member of a conjunction. -/
theorem deal_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens go to the devices that pay with them, and every device gets the records of all cells. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← BI.bigSep_univ_prod (fun ck : Dev nD × Fin 13 => iprop(∃ κ : ℕ, cellInv ER (Rd m) κ (kcell ck))),
    BI.bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← BI.bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (Rd m) κ (kcell ck) : sProp 𝕄))) $$ HI
  icases HK with ⟨%K, #HI⟩
  ihave Htk := (toks_around (F := F)) $$ Htok
  iapply (deal_persistent (R := records m K) (Φ := fun c => iprop((bigSep Finset.univ fun k : Fin 13 => atPos ER (kcell (c, k)) 0 ∅ 0) ∗ payToks c))
    fun c _ => by unfold G'; iintro H; iexists K; iexact H)
  isplitr
  · unfold records; isplitl; · iexact HI
    iexact HR
  · rw [bigSep_sep']
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the devices owe to the receive cells of a lane is the credit each device awaits there. -/
theorem launch_oR (h : Fin 2) (k : Fin 3) (c : Dev nD) : (Pipeline.launchCred (fun d => oR d h k) c : sProp 𝕄) ⊢ cred (tallyAt (recvCell c h k) () N) :=
  Pipeline.launchCred_tallyAt (.dma (recvS h k)) (up k) (up (bk k)) (up_up_bk k) (up_bk_up k) () N c
/-- What the devices owe to the barriers of one distance is the credit each device awaits there. -/
theorem launch_oB (k : Fin 3) (c : Dev nD) : (Pipeline.launchCred (fun d => oB d k) c : sProp 𝕄) ⊢ cred (tallyAt (barCell c) () 1) :=
  Pipeline.launchCred_tallyAt (.reg barS) (up k) (up (bk k)) (up_up_bk k) (up_bk_up k) () 1 c

/-- The credit of the three signals and the six landings a device awaits. -/
theorem creds (c : Dev nD) :
    (Pipeline.launchCred owe9 c : sProp 𝕄) ⊢ iprop(cred (tallyAt (barCell c) () 3)
      ∗ cred (tallyAt (recvCell c 0 0) () N) ∗ cred (tallyAt (recvCell c 0 1) () N) ∗ cred (tallyAt (recvCell c 0 2) () N)
      ∗ cred (tallyAt (recvCell c 1 0) () N) ∗ cred (tallyAt (recvCell c 1 1) () N) ∗ cred (tallyAt (recvCell c 1 2) () N)) := by
  have e : (owe9 : Dev nD → CellTallies nD τ sig Unit)
      = fun d => (0 : CellTallies nD τ sig Unit) + oR d 1 2 + oR d 1 1 + oR d 1 0 + oR d 0 2 + oR d 0 1 + oR d 0 0 + oB d 2 + oB d 1 + oB d 0 := rfl
  rw [e]
  simp only [Pipeline.launchCred_add]
  iintro ⟨⟨⟨⟨⟨⟨⟨⟨⟨-, H12⟩, H11⟩, H10⟩, H02⟩, H01⟩, H00⟩, B2⟩, B1⟩, B0⟩
  isplitl [B0 B1 B2]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [B0]; · iapply (launch_oB 0 c); iexact B0
    iapply (cred_add _ _).2
    isplitl [B1]; · iapply (launch_oB 1 c); iexact B1
    iapply (launch_oB 2 c); iexact B2
  isplitl [H00]; · iapply (launch_oR 0 0 c); iexact H00
  isplitl [H01]; · iapply (launch_oR 0 1 c); iexact H01
  isplitl [H02]; · iapply (launch_oR 0 2 c); iexact H02
  isplitl [H10]; · iapply (launch_oR 1 0 c); iexact H10
  isplitl [H11]; · iapply (launch_oR 1 1 c); iexact H11
  iapply (launch_oR 1 2 c); iexact H12

/-! ## The side conditions -/

/-- What a run leaves to the end untouched: the third argument. -/
def rest (c : Dev nD) : sProp 𝕄 := iprop(((c : Thread nD τ).loc main_arg2) ↦{fullShare} m ((c : Thread nD τ).loc main_arg2))

/-- The launch gives a device what its body starts from, and its unread argument. -/
theorem start_intro (c : Dev nD) :
    iprop(Pipeline.unscopedRestP Pipeline.Prefetch.none cfg0.spec c (fun b => m ((c : Thread nD τ).loc b)) ∗ levAts L lv
        ∗ Pipeline.launchCred owe9 c ∗ prngReg c (ρ c) ∗ G' m c)
      ⊢ |={Set.univ}=> iprop(start m c ∗ rest m c) := by
  rw [Pipeline.unscopedRestP_none, unscopedRest0_eq]
  unfold G' payToks
  rw [bigSep_three, bigSep_lanes, bigSep_lanes, bigSep_cells c (fun g => atPos ER g 0 ∅ 0)]
  iintro ⟨Hm, #Hl, Hcr, -, ⟨%K, #HR, ⟨S00, S01, S02, S10, S11, S12, R00, R01, R02, R10, R11, R12, HB⟩, ⟨T0, T1, T2⟩,
    ⟨P00, P01, P02, P10, P11, P12⟩, ⟨Q00, Q01, Q02, Q10, Q11, Q12⟩⟩⟩
  ihave Hc := (creds (F := F) c) $$ Hcr
  icases Hc with ⟨HcB, C00, C01, C02, C10, C11, C12⟩
  imodintro
  isplitr [Hm]
  · unfold start entryToks lanesStart laneStart
    iexists K
    isplitr; · iexact HR
    isplitr; · iexact Hl
    isplitl [HcB]; · iexact HcB
    isplitl [HB]; · iexact HB
    isplitl [T0 T1 T2]
    · isplitl [T2]; · iexact T2
      isplitl [T1]; · iexact T1
      iexact T0
    isplitl [S00 R00 P00 Q00 C00 S01 R01 P01 Q01 C01 S02 R02 P02 Q02 C02]
    · isplitl [S00 R00 P00 Q00 C00]
      · isplitl [S00]; · iexact S00
        isplitl [R00]; · iexact R00
        isplitl [P00]; · iexact P00
        isplitl [Q00]; · iexact Q00
        iexact C00
      isplitl [S01 R01 P01 Q01 C01]
      · isplitl [S01]; · iexact S01
        isplitl [R01]; · iexact R01
        isplitl [P01]; · iexact P01
        isplitl [Q01]; · iexact Q01
        iexact C01
      isplitl [S02]; · iexact S02
      isplitl [R02]; · iexact R02
      isplitl [P02]; · iexact P02
      isplitl [Q02]; · iexact Q02
      iexact C02
    isplitl [S10 R10 P10 Q10 C10]
    · isplitl [S10]; · iexact S10
      isplitl [R10]; · iexact R10
      isplitl [P10]; · iexact P10
      isplitl [Q10]; · iexact Q10
      iexact C10
    isplitl [S11 R11 P11 Q11 C11]
    · isplitl [S11]; · iexact S11
      isplitl [R11]; · iexact R11
      isplitl [P11]; · iexact P11
      isplitl [Q11]; · iexact Q11
      iexact C11
    isplitl [S12]; · iexact S12
    isplitl [R12]; · iexact R12
    isplitl [P12]; · iexact P12
    isplitl [Q12]; · iexact Q12
    iexact C12
  · unfold rest; iexact Hm

/-- What a device starts from, with the scratch array, is the state before the first point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

/-- The state after the last point gives back the semaphores at zero and the scratch array. -/
theorem phi4_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₄ c from rfl, scopedRest0_eq, ownSems0_eq, unscopedSems0_eq]
  unfold Φ₄ lanesClosed
  iintro ⟨HB, ⟨⟨S00, R00⟩, ⟨S01, R01⟩, ⟨S02, R02⟩, ⟨S10, R10⟩, ⟨S11, R11⟩, ⟨S12, R12⟩⟩, Hr⟩
  isplitl [HB]; · iexact HB
  isplitr [Hr]
  · isplitl [S00]; · iexact S00
    isplitl [S01]; · iexact S01
    isplitl [S02]; · iexact S02
    isplitl [S10]; · iexact S10
    isplitl [S11]; · iexact S11
    isplitl [S12]; · iexact S12
    isplitl [R00]; · iexact R00
    isplitl [R01]; · iexact R01
    isplitl [R02]; · iexact R02
    isplitl [R10]; · iexact R10
    isplitl [R11]; · iexact R11
    iexact R12
  iexact Hr

/-- The pipeline's own waits lie below everything a device owes. -/
theorem waits (c : Dev nD) : (levAts L lv : sProp 𝕄) ⊢ Pipeline.cellsWaits cfgs (dats m) () 0 c :=
  Pipeline.cellsWaits_intro cfgs (dats m) () 0 c fun w s t =>
    mayWait c _ 0 (by fin_cases w <;> fin_cases s <;> decide) _ (by
      rcases t with ⟨_ | _ | _ | _ | _, ht⟩
      · exact above_owe9 c
      · exact above_owe6 (by decide) c
      · exact above_owe1 (by decide) c
      · exact above_owe1 (by decide) c
      · exact above_zero 0)

/-! ## The run -/

/-- What a window's array holds after the last point. -/
def finalA (c : Dev nD) (w : Fin cfg0.W) : Buf (Elt F) ((cfg0.win w).arr.view.loc (c : Thread nD τ)) := (dats m 0 c).arrAt w cfg0.N

/-- From any memory with zero counters, at any float values: every weakly fair execution of @main terminates, and every final
    state has each windowed array at the contents the pipeline computes, the third argument unchanged and every
    semaphore counter at zero. -/
theorem run_arrays : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w)
      ∧ r.2.mem ((c : Thread nD τ).loc main_arg2) = m ((c : Thread nD τ).loc main_arg2)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owe9) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := rest m)
    (hX := start_intro m ρ) (hin := phi0_intro m) (hout := phi4_exit m)
    (QY := fun c s => (∀ sm : SemLoc sig, sm.isScoped .tc = false → s.sem ((c.tc : Thread nD τ), sm) = 0)
      ∧ s.mem ((c.tc : Thread nD τ).loc main_arg2) = m ((c.tc : Thread nD τ).loc main_arg2))
    (hY := fun c s' => by
      unfold rest
      iintro ⟨Hu, Hz, HSI⟩
      icombine HSI Hz gives %h
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ h⟩
      iexact HSI)
    (hQ := fun _ h hs => ⟨fun c => ⟨(h c).1, (h c).2.2.2⟩, sem_eq_zero hs fun c => (h c).2.2.1⟩)

end Cert.YRing

end
-- ==== Proof.Output.lean ====
/-
# The arrays a run leaves

The two windowed arguments as they were and the result at the sum of the four devices' halves.
-/
module

public import proofs.«01_k».proof.Proof.Launch
public import Idealize.ShloMosaic.Lib.Pipeline.Value

@[expose] public section

set_option maxRecDepth 16384

noncomputable section

namespace Cert.YRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The output window's block starts at the array's origin at every point. -/
theorem out_index (t : Fin cfg0.N) (a : Fin 2) : win0_2.index t a = 0 := by
  revert a; rcases fin_N0 t with rfl | rfl | rfl | rfl <;> decide +kernel

/-- The output window's block is the whole array at every point. -/
theorem out_emb (t : Fin cfg0.N) (y : S2x2048.Idx) : ((cfg0.win 2).blk t).view.emb y = y := by
  funext a
  exact Fin.ext (win0_2.rect_emb_val_of_index_zero t a (out_index t a) y)

/-- What a point writes back is the total. -/
theorem flushed_total (c : Dev nD) (t : Fin cfg0.N) :
    (dats m 0 c).flushed 2 t = ((cfg0.win 2).blk t).view.read (Elt F) (total m c) := by
  funext y
  refine Eq.trans ?_ (congrArg (total m c) (out_emb t y)).symm
  rfl

/-- Some point writes back every index. -/
theorem out_cover (i : S2x2048.Idx) : ∃ t : Fin cfg0.N, (cfg0.win 2).flush t = true ∧ i ∈ ((cfg0.win 2).blk t).view.set :=
  ⟨t0_3, (flush0_2 t0_3).2 (by decide), by
    have h := ((cfg0.win 2).blk t0_3).view.emb_mem_set i
    rwa [out_emb] at h⟩

/-- After the last point the output array holds the total. -/
theorem finalA_out (c : Dev nD) : finalA m c 2 = total m c :=
  (dats m 0 c).arrAt_eq_of_cover 2 (total m c) (fun t _ => flushed_total m c t) out_cover

/-- Every weakly fair execution of @main terminates with the result array of each device at the sum of the ring's halves, the three
    arguments unchanged and every semaphore counter at zero. -/
theorem run_main : θ_run defs (onTc (τ := τ) (main (F := F))) ⟨m, fun _ => 0, ρ⟩ (fun r =>
    (∀ c : Dev nD, r.2.mem ((c : Thread nD τ).loc main_v1) = total m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c =>
    ⟨((h.1 c).1 2).trans (finalA_out m c), ((h.1 c).1 0).trans ((dats m 0 c).arrAt_in 0 rfl _), ((h.1 c).1 1).trans ((dats m 0 c).arrAt_in 1 rfl _), (h.1 c).2⟩, h.2⟩)
    (run_arrays m ρ)

end Cert.YRing

end
-- ==== Proof.Frames.lean ====
/-
# The frames

The kernel's run read at machine floats and at extended reals, and the reference's run with its counters.
-/
module

public import proofs.«01_k».proof.Defs
public import proofs.«01_k».proof.Proof.Output
public import proofs.«01_k».proof.Proof.Gen.Kernel
public import proofs.«01_k».proof.Proof.Gen.ReferenceIdeal.Run

@[expose] public section

noncomputable section

namespace Cert.YRing

open Idealize.ShloMosaic Idealize.SL.Sem

attribute [local instance] Cert.Kernel.Gen.facts Cert.KernelIdeal.Gen.facts

/-- The kernel and its idealization have one body table. -/
theorem bodies_eq : Cert.Kernel.defs₀ (F := Bits) = Cert.KernelIdeal.defs₀ := by
  unfold Cert.Kernel.defs₀ Cert.KernelIdeal.defs₀
  refine congrArg Defs.onTc ?_
  funext l a
  match l, a with
  | ⟨0, _⟩, (t, s) => rfl

/-- The kernel and its idealization have one table of definitions. -/
theorem defs_eq : Cert.Kernel.defs (F := Bits) = Cert.KernelIdeal.defs :=
  congrArg (Pipeline.defs Cert.KernelIdeal.pcfgs) bodies_eq

/-- The kernel at machine floats terminates, leaves its arguments unchanged and every counter at zero. -/
theorem frame_kernel : Cert.quiescent_Kernel (hKernel := Cert.Kernel.Gen.facts) := by
  intro m ρ _
  rw [defs_eq]
  exact (θ_run Cert.KernelIdeal.defs _ _).mono (fun _ h => ⟨fun c => (h.1 c).2, h.2⟩) (run_main (F := Bits) m ρ)

/-- The kernel at extended reals terminates, leaves its arguments unchanged and every counter at zero. -/
theorem frame_kernel_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

/-- The reference terminates and leaves its arguments unchanged; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.YRing

end
-- ==== Proof.RowMath.lean ====
/-
# The normalization of one row

The kernel takes a row's variance as the mean of the squares less the square of the mean, and scales by a reciprocal root; the
reference takes it as the mean of the squared deviations, and scales by one over a root. On a row of finite entries the two scales
are one.
-/
module

public import Idealize.ShloMosaic.PureOps.Ideal
public import Idealize.ShloMosaic.Lib.IdealHost

@[expose] public section

noncomputable section

namespace Cert.YRing

open Idealize.ShloMosaic

/-- The row length, as the float constant of both programs. -/
abbrev len : EReal := Ideal.ofBits .f32 0x45000000#32
/-- The small constant added to the variance, as the float constant of both programs. -/
abbrev small : EReal := Ideal.ofBits .f32 0x3727C5AC#32

/-- The row length is 2048. -/
theorem len_eq : len = ((2048 : ℝ) : EReal) := by
  simp [len, Ideal.ofBits, Ideal.ieee, -EReal.coe_mul]; norm_num

/-- The small constant is a positive real. -/
theorem small_pos : ∃ e : ℝ, 0 < e ∧ small = (e : EReal) :=
  ⟨10995116 / 2 ^ 40, by norm_num, by simp [small, Ideal.ofBits, Ideal.ieee, -EReal.coe_mul]; norm_num⟩

/-- The mean of a row. -/
def rowMean (X : Fin 2048 → EReal) : EReal := Ideal.div (∑ k, X k) len
/-- The scale as the kernel computes it. -/
def scaleK (X : Fin 2048 → EReal) : EReal := Ideal.rsqrt (Ideal.div (∑ k, X k * X k) len - rowMean X * rowMean X + small)
/-- The scale as the reference computes it. -/
def scaleR (X : Fin 2048 → EReal) : EReal :=
  Ideal.div 1 (Ideal.sqrt (Ideal.div (∑ k, (X k - rowMean X) * (X k - rowMean X)) len + small))

/-- A finite sum of reals is the same sum among the extended reals. -/
theorem coe_sum {n : ℕ} (f : Fin n → ℝ) : (∑ k, (f k : EReal)) = ((∑ k, f k : ℝ) : EReal) := by
  induction n with
  | zero => simp
  | succ n ih => rw [Fin.sum_univ_castSucc, Fin.sum_univ_castSucc, ih, EReal.coe_add]

/-- Division of a real by the row length. -/
theorem div_len (r : ℝ) : Ideal.div (r : EReal) len = ((r / 2048 : ℝ) : EReal) := by
  rw [len_eq, Ideal.div_coe (by norm_num), ← EReal.coe_mul, mul_one_div]

/-- The mean of the squares less the square of the mean is the mean of the squared deviations. -/
theorem variance (r : Fin 2048 → ℝ) :
    (∑ k, r k * r k) / 2048 - (∑ k, r k) / 2048 * ((∑ k, r k) / 2048)
      = (∑ k, (r k - (∑ k, r k) / 2048) * (r k - (∑ k, r k) / 2048)) / 2048 := by
  generalize hS : (∑ k, r k) / 2048 = μ
  have h1 : ∑ k, r k = 2048 * μ := by rw [← hS]; ring
  have h2 : ∑ k, (r k - μ) * (r k - μ) = (∑ k, r k * r k) - 2 * μ * (∑ k, r k) + 2048 * (μ * μ) := by
    rw [Finset.mul_sum, ← Finset.sum_sub_distrib]
    have : (2048 : ℝ) * (μ * μ) = ∑ _k : Fin 2048, μ * μ := by simp
    rw [this, ← Finset.sum_add_distrib]
    exact Finset.sum_congr rfl fun k _ => by ring
  rw [h2, h1]; ring

/-- On a row of finite entries the kernel's scale is the reference's. -/
theorem scale_eq (X : Fin 2048 → EReal) (hX : ∀ k, ∃ r : ℝ, X k = (r : EReal)) : scaleK X = scaleR X := by
  choose r hr using hX
  obtain rfl : X = fun k => (r k : EReal) := funext hr
  obtain ⟨e, he, hs⟩ := small_pos
  have hm : rowMean (fun k => (r k : EReal)) = (((∑ k, r k) / 2048 : ℝ) : EReal) := by unfold rowMean; rw [coe_sum, div_len]
  unfold scaleK scaleR
  simp only [hm, hs, ← EReal.coe_mul, ← EReal.coe_sub, coe_sum, div_len, ← EReal.coe_add, variance]
  have hpos : 0 < (∑ k, (r k - (∑ k, r k) / 2048) * (r k - (∑ k, r k) / 2048)) / 2048 + e :=
    add_pos_of_nonneg_of_pos (div_nonneg (Finset.sum_nonneg fun k _ => mul_self_nonneg _) (by norm_num)) he
  rw [Ideal.rsqrt_coe, Ideal.sqrt_coe, if_neg hpos.not_gt, if_neg hpos.ne', if_neg hpos.not_gt,
    Ideal.div_coe (Real.sqrt_pos.2 hpos).ne', one_mul, one_div]

end Cert.YRing

end
-- ==== Proof.KernelValue.lean ====
/-
# The kernel's value at extended reals

One block's partial sums at an index, and the sum of the ring's halves.
-/
module

public import proofs.«01_k».proof.Proof.Output
public import proofs.«01_k».proof.Proof.RowMath
public import Idealize.ShloMosaic.Lib.Pointwise
public import Idealize.ShloMosaic.Lib.Layout
public import Idealize.ShloMosaic.Lib.Pipeline.Value

@[expose] public section

noncomputable section

namespace Cert.YRing

open Idealize.ShloMosaic Cert.KernelIdeal Cert.KernelIdeal.Gen

/-- Row 0 of a block's partial: the column sums of the gradient times the normalized rows. -/
theorem pay7_gamma (a b : FVec Ideal S512x2048 .f32) (j : Fin 2048) :
    k0_pay7 (F := Ideal) a b (ix2 0 j)
      = ∑ r : Fin 512, b (ix2 r j) * ((a (ix2 r j) - rowMean fun k => a (ix2 r k)) * scaleK fun k => a (ix2 r k)) := by
  unfold rowMean scaleK rowMean
  pointwise [k0_pay7]

/-- Row 1 of a block's partial: the column sums of the gradient. -/
theorem pay7_beta (a b : FVec Ideal S512x2048 .f32) (j : Fin 2048) :
    k0_pay7 (F := Ideal) a b (ix2 1 j) = ∑ r : Fin 512, b (ix2 r j) := by
  pointwise [k0_pay7]

open Idealize.ShloMosaic.TcCoe

variable (m : (ℓ : Loc nD τ sig) → Buf (Elt Ideal) ℓ)

/-- The result at an index: the eight halves of the ring, each the sum of two blocks' partials. -/
theorem total_apply (c : Dev nD) (i : S2x2048.Idx) :
    total m c i
      = part m c t0_0 i + part m c t0_1 i
        + (part m (up (bk 0) c) t0_0 i + part m (up (bk 0) c) t0_1 i)
        + (part m (up (bk 1) c) t0_0 i + part m (up (bk 1) c) t0_1 i)
        + (part m (up (bk 2) c) t0_0 i + part m (up (bk 2) c) t0_1 i)
        + (part m c t0_2 i + part m c t0_3 i)
        + (part m (up (bk 0) c) t0_2 i + part m (up (bk 0) c) t0_3 i)
        + (part m (up (bk 1) c) t0_2 i + part m (up (bk 1) c) t0_3 i)
        + (part m (up (bk 2) c) t0_2 i + part m (up (bk 2) c) t0_3 i) := by
  unfold total half
  rw [eq_ix2 i]
  pointwise [k0_pay3, k0_pay6, k0_pay4, k0_pay5, k0_pay1, k0_pay2]

/-- Row `r` of block `t` of a device's argument. -/
theorem x_block (c : Dev nD) (t : Fin 4) (r : Fin 512) (j : Fin 2048) :
    iblk m c 0 (t.cast N_0.symm) (ix2 r j) = m ((c : Thread nD τ).loc main_arg0) (ix2 ⟨t.val * 512 + r.val, by omega⟩ j) := by
  refine congrArg (m ((c : Thread nD τ).loc main_arg0)) ?_
  funext a
  refine Fin.ext ((win0_0.rect_emb_val (t.cast N_0.symm) (ix2 r j) a).trans ?_)
  fin_cases t <;> match a with | ⟨0, _⟩ => rfl | ⟨1, _⟩ => exact Nat.zero_add _

/-- Row `r` of block `t` of a device's gradient argument. -/
theorem dy_block (c : Dev nD) (t : Fin 4) (r : Fin 512) (j : Fin 2048) :
    iblk m c 1 (t.cast N_0.symm) (ix2 r j) = m ((c : Thread nD τ).loc main_arg1) (ix2 ⟨t.val * 512 + r.val, by omega⟩ j) := by
  refine congrArg (m ((c : Thread nD τ).loc main_arg1)) ?_
  funext a
  refine Fin.ext ((win0_1.rect_emb_val (t.cast N_0.symm) (ix2 r j) a).trans ?_)
  fin_cases t <;> match a with | ⟨0, _⟩ => rfl | ⟨1, _⟩ => exact Nat.zero_add _

end Cert.YRing

end
-- ==== Proof.ReferenceValue.lean ====
/-
# The reference's value at extended reals

The reference's result read at an index: a column sum over the rows of both whole arrays.
-/
module

public import proofs.«01_k».proof.Proof.RowMath
public import proofs.«01_k».proof.Proof.Gen.ReferenceIdeal.Run
public import Idealize.ShloMosaic.Lib.Pointwise

@[expose] public section

noncomputable section

namespace Cert.YRing

open Idealize.ShloMosaic Idealize.ShloMosaic.TcCoe Idealize.SL.Sem Cert.ReferenceIdeal Cert.ReferenceIdeal.Gen

/-- The row length is positive. -/
theorem len_pos : 0 < len := by rw [len_eq]; exact EReal.coe_pos.mpr (by norm_num)

/-- The divisor of the variance: the row length less the correction, an integer zero. -/
theorem len_sub_zero : len - (FloatOps.sitofp (F := Ideal) .f32 (0#32) : EReal) = len := by
  have h : (FloatOps.sitofp (F := Ideal) .f32 (0#32) : EReal) = 0 := by
    change (((0#32 : BitVec 32).toInt : ℝ) : EReal) = 0
    simp
  rw [h, sub_zero]

/-- The two column sums over whole arrays: the gradient times the normalized row, and the gradient. -/
def columns (X Y : FVec Ideal S8192x2048 .f32) : FVec Ideal S2x2048 .f32 := fun i =>
  if (i 0).val = 0 then
    ∑ r : Fin 8192, Y (ix2 r (i 1)) * ((X (ix2 r (i 1)) - rowMean fun k => X (ix2 r k)) * scaleR fun k => X (ix2 r k))
  else ∑ r : Fin 8192, Y (ix2 r (i 1))

/-- Row 0 of the column sums. -/
theorem columns_gamma (X Y : FVec Ideal S8192x2048 .f32) (j : Fin 2048) :
    columns X Y (ix2 0 j)
      = ∑ r : Fin 8192, Y (ix2 r j) * ((X (ix2 r j) - rowMean fun k => X (ix2 r k)) * scaleR fun k => X (ix2 r k)) := rfl

/-- Row 1 of the column sums. -/
theorem columns_beta (X Y : FVec Ideal S8192x2048 .f32) (j : Fin 2048) :
    columns X Y (ix2 1 j) = ∑ r : Fin 8192, Y (ix2 r j) := rfl

/-- The reference run leaves the column sums of its arguments, and the arguments as they were. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v19)
          = columns (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2) := by
  refine (Cert.ReferenceIdeal.Value.run (F := Ideal) m ρ).mono fun r h c => ⟨(h c).1.trans ?_, (h c).2⟩
  clear h
  generalize m ((c : Thread nD τ).loc main_arg0) = X
  generalize m ((c : Thread nD τ).loc main_arg1) = Y
  funext i
  obtain ⟨a, j, rfl⟩ : ∃ a j, i = ix2 a j := ⟨i 0, i 1, eq_ix2 i⟩
  match a with
  | ⟨0, _⟩ =>
    refine Eq.trans ?_ (columns_gamma X Y j).symm
    unfold scaleR rowMean
    pointwise
    simp only [len_sub_zero, if_pos len_pos]
  | ⟨1, _⟩ =>
    refine Eq.trans ?_ (columns_beta X Y j).symm
    pointwise

end Cert.YRing

end
-- ==== Proof.Algebraic.lean ====
/-
# The kernel's value is the reference's

A device's block of a whole array is its ring coordinate's share of the rows. The eight halves the ring adds are the rows of the
whole arrays taken block by block, so every device's result is the reference's column sums.
-/
module

public import proofs.«01_k».proof.Defs
public import proofs.«01_k».proof.Proof.KernelValue
public import proofs.«01_k».proof.Proof.ReferenceValue

@[expose] public section

noncomputable section

namespace Cert.YRing

open Idealize.ShloMosaic Idealize.ShloMosaic.TcCoe Idealize.SL.Sem Cert.KernelIdeal Cert.KernelIdeal.Gen

/-- A device's coordinate on its ring. -/
def yOf (c : Dev nD) : Fin 4 := ⟨c.val / 4 % 4, Nat.mod_lt _ (by decide)⟩

/-- The `k`-th neighbour on the ring is `k + 1` coordinates up. -/
theorem yOf_up (k : Fin 3) (c : Dev nD) : yOf (up k c) = yOf c + k.castSucc + 1 := by
  revert k c; decide +kernel

/-- Row `s` of share `y` of the whole array's rows. -/
def row (y : Fin 4) (s : Fin 2048) : Fin 8192 := ⟨y.val * 2048 + s.val, by omega⟩
/-- Row `r` of block `t` of a share. -/
def inBlock (t : Fin 4) (r : Fin 512) : Fin 2048 := ⟨t.val * 512 + r.val, by omega⟩

/-- A sum over all rows, share by share and block by block. -/
theorem sum_rows (G : Fin 8192 → EReal) :
    ∑ i, G i = ∑ y : Fin 4, ∑ t : Fin 4, ∑ r : Fin 512, G (row y (inBlock t r)) := by
  rw [Fin.sum_univ_tiles 4 2048 (by decide) G]
  exact Finset.sum_congr rfl fun y _ => Fin.sum_univ_tiles 4 512 (by decide) fun s : Fin 2048 => G (row y s)

/-- The eight halves in the order a device adds them, whichever its coordinate, make the sum over all shares and blocks. -/
theorem ring_sum (q : Fin 4 → Fin 4 → EReal) (c : Dev nD) :
    q (yOf c) 0 + q (yOf c) 1
      + (q (yOf (up (bk 0) c)) 0 + q (yOf (up (bk 0) c)) 1)
      + (q (yOf (up (bk 1) c)) 0 + q (yOf (up (bk 1) c)) 1)
      + (q (yOf (up (bk 2) c)) 0 + q (yOf (up (bk 2) c)) 1)
      + (q (yOf c) 2 + q (yOf c) 3)
      + (q (yOf (up (bk 0) c)) 2 + q (yOf (up (bk 0) c)) 3)
      + (q (yOf (up (bk 1) c)) 2 + q (yOf (up (bk 1) c)) 3)
      + (q (yOf (up (bk 2) c)) 2 + q (yOf (up (bk 2) c)) 3)
      = ∑ y, ∑ t, q y t := by
  simp only [yOf_up, Fin.sum_univ_four]
  generalize yOf c = y
  have e0 : (bk 0).castSucc + 1 = (3 : Fin 4) := by decide
  have e1 : (bk 1).castSucc + 1 = (2 : Fin 4) := by decide
  have e2 : (bk 2).castSucc + 1 = (1 : Fin 4) := by decide
  simp only [add_assoc y, e0, e1, e2]
  match y with
  | 0 => change q 0 0 + q 0 1 + (q 3 0 + q 3 1) + (q 2 0 + q 2 1) + (q 1 0 + q 1 1) + (q 0 2 + q 0 3) + (q 3 2 + q 3 3) + (q 2 2 + q 2 3) + (q 1 2 + q 1 3) = _; abel
  | 1 => change q 1 0 + q 1 1 + (q 0 0 + q 0 1) + (q 3 0 + q 3 1) + (q 2 0 + q 2 1) + (q 1 2 + q 1 3) + (q 0 2 + q 0 3) + (q 3 2 + q 3 3) + (q 2 2 + q 2 3) = _; abel
  | 2 => change q 2 0 + q 2 1 + (q 1 0 + q 1 1) + (q 0 0 + q 0 1) + (q 3 0 + q 3 1) + (q 2 2 + q 2 3) + (q 1 2 + q 1 3) + (q 0 2 + q 0 3) + (q 3 2 + q 3 3) = _; abel
  | 3 => change q 3 0 + q 3 1 + (q 2 0 + q 2 1) + (q 1 0 + q 1 1) + (q 0 0 + q 0 1) + (q 3 2 + q 3 3) + (q 2 2 + q 2 3) + (q 1 2 + q 1 3) + (q 0 2 + q 0 3) = _; abel

/-- The mesh coordinate the rows are cut by is the ring's. -/
theorem mesh_rows (c : Dev nD) : Layout.meshLin [2, 4, 4] c.val [1] = (yOf c).val := by revert c; decide +kernel

/-- A device's block of a whole array is the rows of its share. -/
theorem block_row (c : Dev nD) (X : FVec Ideal Cert.ReferenceIdeal.S8192x2048 .f32) (s k : Fin 2048) :
    (Layout.blockN ⟨2, ![2048, 2048]⟩ ⟨2, ![8192, 2048]⟩ (Layout.meshBlock [2, 4, 4] ![[1], []] c) X) (ix2 s k)
      = X (ix2 (row (yOf c) s) k) := by
  refine congrArg X ?_
  funext a
  refine Fin.ext ((Layout.TilesN.idx_val _ _ _ _).trans ?_)
  match a with
  | ⟨0, _⟩ => exact congrArg (· * 2048 + s.val) (mesh_rows c)
  | ⟨1, _⟩ => exact Nat.zero_add _

/-- The normalized gradient at a row and column of the whole arrays. -/
def gammaTerm (X Y : FVec Ideal Cert.ReferenceIdeal.S8192x2048 .f32) (j : Fin 2048) (i : Fin 8192) : EReal :=
  Y (ix2 i j) * ((X (ix2 i j) - rowMean fun k => X (ix2 i k)) * scaleR fun k => X (ix2 i k))

variable (m : (ℓ : Loc nD τ sig) → Buf (Elt Ideal) ℓ) (X Y : FVec Ideal Cert.ReferenceIdeal.S8192x2048 .f32)

/-- A block's first partial is the sum of the normalized gradient over the block's rows. -/
theorem part_gamma (c : Dev nD)
    (hX : ∀ s k : Fin 2048, m ((c : Thread nD τ).loc main_arg0) (ix2 s k) = X (ix2 (row (yOf c) s) k))
    (hY : ∀ s k : Fin 2048, m ((c : Thread nD τ).loc main_arg1) (ix2 s k) = Y (ix2 (row (yOf c) s) k))
    (hr : ∀ s k : Fin 2048, ∃ r : ℝ, X (ix2 (row (yOf c) s) k) = (r : EReal)) (t : Fin 4) (j : Fin 2048) :
    part m c (t.cast N_0.symm) (ix2 0 j) = ∑ r : Fin 512, gammaTerm X Y j (row (yOf c) (inBlock t r)) := by
  have hx : ∀ r k, iblk m c 0 (t.cast N_0.symm) (ix2 r k) = X (ix2 (row (yOf c) (inBlock t r)) k) :=
    fun r k => (x_block m c t r k).trans (hX _ k)
  have hy : ∀ r k, iblk m c 1 (t.cast N_0.symm) (ix2 r k) = Y (ix2 (row (yOf c) (inBlock t r)) k) :=
    fun r k => (dy_block m c t r k).trans (hY _ k)
  refine (pay7_gamma _ _ j).trans (Finset.sum_congr rfl fun r _ => ?_)
  simp only [hx, hy]
  rw [scale_eq _ fun k => hr (inBlock t r) k]
  rfl

/-- A block's second partial is the sum of the gradient over the block's rows. -/
theorem part_beta (c : Dev nD)
    (hY : ∀ s k : Fin 2048, m ((c : Thread nD τ).loc main_arg1) (ix2 s k) = Y (ix2 (row (yOf c) s) k)) (t : Fin 4)
    (j : Fin 2048) :
    part m c (t.cast N_0.symm) (ix2 1 j) = ∑ r : Fin 512, Y (ix2 (row (yOf c) (inBlock t r)) j) :=
  (pay7_beta _ _ j).trans (Finset.sum_congr rfl fun r _ => (dy_block m c t r j).trans (hY _ j))

/-- The result at an index, from the blocks' partials there: the sum over all rows. -/
theorem total_of_parts (i : S2x2048.Idx) (G : Fin 8192 → EReal)
    (h : ∀ (c : Dev nD) (t : Fin 4), part m c (t.cast N_0.symm) i = ∑ r : Fin 512, G (row (yOf c) (inBlock t r))) (c : Dev nD) :
    total m c i = ∑ k, G k := by
  have h0 : ∀ c, part m c t0_0 i = ∑ r : Fin 512, G (row (yOf c) (inBlock 0 r)) := fun c => h c 0
  have h1 : ∀ c, part m c t0_1 i = ∑ r : Fin 512, G (row (yOf c) (inBlock 1 r)) := fun c => h c 1
  have h2 : ∀ c, part m c t0_2 i = ∑ r : Fin 512, G (row (yOf c) (inBlock 2 r)) := fun c => h c 2
  have h3 : ∀ c, part m c t0_3 i = ∑ r : Fin 512, G (row (yOf c) (inBlock 3 r)) := fun c => h c 3
  rw [total_apply]
  simp only [h0, h1, h2, h3]
  exact (ring_sum (fun y t => ∑ r : Fin 512, G (row y (inBlock t r))) c).trans (sum_rows G).symm

/-- Every device's result is the column sums of the whole arrays its ring holds. -/
theorem total_eq_columns
    (hX : ∀ (c : Dev nD) (s k : Fin 2048), m ((c : Thread nD τ).loc main_arg0) (ix2 s k) = X (ix2 (row (yOf c) s) k))
    (hY : ∀ (c : Dev nD) (s k : Fin 2048), m ((c : Thread nD τ).loc main_arg1) (ix2 s k) = Y (ix2 (row (yOf c) s) k))
    (hr : ∀ (c : Dev nD) (s k : Fin 2048), ∃ r : ℝ, X (ix2 (row (yOf c) s) k) = (r : EReal)) (c : Dev nD) :
    total m c = columns X Y := by
  funext i
  obtain ⟨a, j, rfl⟩ : ∃ a j, i = ix2 a j := ⟨i 0, i 1, eq_ix2 i⟩
  match a with
  | ⟨0, _⟩ =>
    exact (total_of_parts m _ (gammaTerm X Y j) (fun c t => part_gamma m X Y c (hX c) (hY c) (hr c) t j) c).trans
      (columns_gamma X Y j).symm
  | ⟨1, _⟩ =>
    exact (total_of_parts m _ (fun i => Y (ix2 i j)) (fun c t => part_beta m Y c (hY c) t j) c).trans (columns_beta X Y j).symm

instance factsPreKernel : Cert.Pre_x_finite_KernelIdeal.Facts := ⟨by decide⟩
instance factsPreReference : Cert.Pre_x_finite_ReferenceIdeal.Facts := ⟨by decide⟩

/-- An extended real whose absolute value is below infinity is a real number. -/
theorem real_of_finite (x : EReal) (h : max x (-x) < ⊤) : ∃ r : ℝ, x = (r : EReal) := by
  induction x with
  | bot => simp at h
  | top => simp at h
  | coe r => exact ⟨r, rfl⟩

/-- The precondition, read at an entry: it is a real number. -/
theorem real_of_pre (x y : FVec Ideal S2048x2048 .f32) (z : FVec Ideal Cert.Pre_x_finite_KernelIdeal.S2048 .f32)
    (h : Cert.Pre_x_finite_KernelIdeal.fn (F := Ideal) x y z = fun _ => 1#1) (s k : Fin 2048) :
    ∃ r : ℝ, x (ix2 s k) = (r : EReal) := by
  have h' := congrFun h (ix2 s k)
  revert h'
  pointwise [Cert.Pre_x_finite_KernelIdeal.fn]
  intro h'
  have htop : Ideal.ofBits .f32 0x7F800000#32 = ⊤ := by simp [Ideal.ofBits, Ideal.ieee]
  rw [htop] at h'
  refine real_of_finite _ (by_contra fun hn => ?_)
  replace hn : ¬ FloatOps.absf (x (ix2 s k)) < (⊤ : EReal) := hn
  simp [hn] at h'

/-- From blocks of the same whole arrays, the finite first one: the kernel and the reference end with one result. -/
theorem algebraic :
    Cert.algebraic_KernelIdeal_ReferenceIdeal_pre_x_finite_KernelIdeal (hKernelIdeal := Cert.KernelIdeal.Gen.facts)
      (hReferenceIdeal := Cert.ReferenceIdeal.Gen.facts) (hPre_x_finite_KernelIdeal := factsPreKernel) := by
  intro m g m' g' hpre hin
  have hX := fun (c : Dev nD) (s k : Fin 2048) => (congrFun (hin c).1 (ix2 s k)).trans (block_row c _ s k)
  have hY := fun (c : Dev nD) (s k : Fin 2048) => (congrFun (hin c).2.1 (ix2 s k)).trans (block_row c _ s k)
  have hr := fun (c : Dev nD) (s k : Fin 2048) => (real_of_pre _ _ _ (hpre c) s k).imp fun _ h => (hX c s k).symm.trans h
  refine ⟨_, (run_main (F := Ideal) m g).mono fun r h c => ⟨(h.1 c).1.trans (total_eq_columns m _ _ hX hY hr c), (h.1 c).2⟩,
    (run_reference m' g').mono fun r h => h 0⟩

end Cert.YRing

end
-- ==== Proof.lean ====
/-
The proof of the certificate's claim, its parts joined.
-/
module

public import proofs.«01_k».proof.Defs
public import proofs.«01_k».proof.Proof.Frames
public import proofs.«01_k».proof.Proof.Algebraic

@[expose] public section

noncomputable section

namespace Cert.Proof

/-- The whole claim. -/
theorem claim : Cert.Claim := ⟨Cert.Kernel.Gen.facts, Cert.KernelIdeal.Gen.facts, Cert.ReferenceIdeal.Gen.facts,
  Cert.YRing.factsPreKernel, Cert.YRing.factsPreReference,
  Cert.YRing.frame_kernel, Cert.YRing.frame_kernel_ideal, fun m ρ _ => Cert.YRing.frame_kernel_ideal m ρ trivial,
  Cert.YRing.frame_reference, fun m ρ _ => Cert.YRing.frame_reference m ρ trivial, trivial, Cert.YRing.algebraic⟩

end Cert.Proof

end
